-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![16384, 512]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_table_ReferenceIdeal.lean ====
abbrev S512 : Shape := ⟨1, ![512]⟩
abbrev S16384x512 : Shape := ⟨2, ![16384, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S16384x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 16384#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S512x512 : Shape := ⟨2, ![512, 512]⟩
abbrev S8x64x512 : Shape := ⟨3, ![8, 64, 512]⟩
abbrev S8 : Shape := ⟨1, ![8]⟩
abbrev S1x64x512 : Shape := ⟨3, ![1, 64, 512]⟩
abbrev S64x512 : Shape := ⟨2, ![64, 512]⟩

abbrev nBuf : Space → Nat
  | .hbm => 53
  | .vmem => 5
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512x1, .i1⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x512, .f32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S512x512, .i1⟩
  | .hbm, ⟨50, _⟩ => ⟨S512x512, .f32⟩
  | .hbm, ⟨51, _⟩ => ⟨S512x512, .f32⟩
  | .hbm, ⟨52, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(11, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v16 : Ref sig .tc := ⟨.hbm, 51, rfl⟩
abbrev main_v17 : Ref sig .tc := ⟨.hbm, 52, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier11 : Sem sig := 0

abbrev nD : Nat := 32
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_13 : BitVec 32 := 0#32
  let v23 : BitVec 1 := Scalar.cmpi .sgt v8 c0_i32_13
  let v24 : BitVec 32 := Scalar.extui v23
  let c0_i32_14 : BitVec 32 := 0#32
  let v25 : BitVec 1 := Scalar.cmpi .ne v24 c0_i32_14
  v25

def k0_dev1 (d0 : Dev nD) : Nat :=
  let c0_i32_283 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_282 : BitVec 32 := 16#32
  let v127 : BitVec 32 := Scalar.muli v2 c16_i32_282
  let v128 : BitVec 32 := Scalar.addi c0_i32_283 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_284 : BitVec 32 := 4#32
  let v129 : BitVec 32 := Scalar.muli v5 c4_i32_284
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.subi v8 c1_i32_8
  let c4_i32_9 : BitVec 32 := 4#32
  let v19 : BitVec 32 := Scalar.addi v18 c4_i32_9
  let c4_i32_10 : BitVec 32 := 4#32
  let v20 : BitVec 32 := Scalar.remsi v19 c4_i32_10
  let c1_i32_285 : BitVec 32 := 1#32
  let v131 : BitVec 32 := Scalar.muli v20 c1_i32_285
  let v132 : BitVec 32 := Scalar.addi v130 v131
  v132.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_15 : BitVec 32 := 3#32
  let v26 : BitVec 1 := Scalar.cmpi .slt v8 c3_i32_15
  let v27 : BitVec 32 := Scalar.extui v26
  let c0_i32_16 : BitVec 32 := 0#32
  let v28 : BitVec 1 := Scalar.cmpi .ne v27 c0_i32_16
  v28

def k0_dev2 (d0 : Dev nD) : Nat :=
  let c0_i32_283 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_282 : BitVec 32 := 16#32
  let v127 : BitVec 32 := Scalar.muli v2 c16_i32_282
  let v128 : BitVec 32 := Scalar.addi c0_i32_283 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_284 : BitVec 32 := 4#32
  let v129 : BitVec 32 := Scalar.muli v5 c4_i32_284
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.addi v8 c1_i32_11
  let c4_i32_12 : BitVec 32 := 4#32
  let v22 : BitVec 32 := Scalar.remsi v21 c4_i32_12
  let c1_i32_285 : BitVec 32 := 1#32
  let v131 : BitVec 32 := Scalar.muli v22 c1_i32_285
  let v132 : BitVec 32 := Scalar.addi v130 v131
  v132.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v31 : BitVec 32 := Scalar.extui v11
  let c0_i32_23 : BitVec 32 := 0#32
  let v32 : BitVec 1 := Scalar.cmpi .ne v31 c0_i32_23
  v32

def k0_dev3 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v33 : BitVec 32 := Scalar.extui v11
  let c0_i32_27 : BitVec 32 := 0#32
  let v34 : BitVec 1 := Scalar.cmpi .ne v33 c0_i32_27
  v34

def k0_dev4 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v35 : BitVec 32 := Scalar.extui v11
  let c0_i32_31 : BitVec 32 := 0#32
  let v36 : BitVec 1 := Scalar.cmpi .ne v35 c0_i32_31
  v36

def k0_dev5 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v37 : BitVec 32 := Scalar.extui v11
  let c0_i32_35 : BitVec 32 := 0#32
  let v38 : BitVec 1 := Scalar.cmpi .ne v37 c0_i32_35
  v38

def k0_dev6 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v39 : BitVec 32 := Scalar.extui v11
  let c0_i32_39 : BitVec 32 := 0#32
  let v40 : BitVec 1 := Scalar.cmpi .ne v39 c0_i32_39
  v40

def k0_dev7 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v41 : BitVec 32 := Scalar.extui v11
  let c0_i32_42 : BitVec 32 := 0#32
  let v42 : BitVec 1 := Scalar.cmpi .ne v41 c0_i32_42
  v42

def k0_dev8 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v43 : BitVec 32 := Scalar.extui v11
  let c0_i32_45 : BitVec 32 := 0#32
  let v44 : BitVec 1 := Scalar.cmpi .ne v43 c0_i32_45
  v44

def k0_dev9 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v45 : BitVec 32 := Scalar.extui v11
  let c0_i32_48 : BitVec 32 := 0#32
  let v46 : BitVec 1 := Scalar.cmpi .ne v45 c0_i32_48
  v46

def k0_dev10 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v127 : BitVec 32 := Scalar.muli v2 c16_i32_281
  let v128 : BitVec 32 := Scalar.addi c0_i32_282 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v129 : BitVec 32 := Scalar.muli v5 c4_i32_283
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c1_i32_2 : BitVec 32 := 1#32
  let c2_i32_3 : BitVec 32 := 2#32
  let v13 : BitVec 32 := Scalar.select v9 c1_i32_2 c2_i32_3
  let c1_i32_284 : BitVec 32 := 1#32
  let v131 : BitVec 32 := Scalar.muli v13 c1_i32_284
  let v132 : BitVec 32 := Scalar.addi v130 v131
  v132.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v47 : BitVec 32 := Scalar.extui v12
  let c0_i32_56 : BitVec 32 := 0#32
  let v48 : BitVec 1 := Scalar.cmpi .ne v47 c0_i32_56
  v48

def k0_dev11 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v146 : BitVec 32 := Scalar.muli v2 c16_i32_296
  let v147 : BitVec 32 := Scalar.addi c0_i32_297 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_298 : BitVec 32 := 4#32
  let v148 : BitVec 32 := Scalar.muli v5 c4_i32_298
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_299 : BitVec 32 := 1#32
  let v150 : BitVec 32 := Scalar.muli v14 c1_i32_299
  let v151 : BitVec 32 := Scalar.addi v149 v150
  v151.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v49 : BitVec 32 := Scalar.extui v12
  let c0_i32_64 : BitVec 32 := 0#32
  let v50 : BitVec 1 := Scalar.cmpi .ne v49 c0_i32_64
  v50

def k0_dev12 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v51 : BitVec 32 := Scalar.extui v12
  let c0_i32_72 : BitVec 32 := 0#32
  let v52 : BitVec 1 := Scalar.cmpi .ne v51 c0_i32_72
  v52

def k0_dev13 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v53 : BitVec 32 := Scalar.extui v12
  let c0_i32_79 : BitVec 32 := 0#32
  let v54 : BitVec 1 := Scalar.cmpi .ne v53 c0_i32_79
  v54

def k0_dev14 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v145 : BitVec 32 := Scalar.muli v2 c16_i32_296
  let v146 : BitVec 32 := Scalar.addi c0_i32_297 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_298 : BitVec 32 := 4#32
  let v147 : BitVec 32 := Scalar.muli v5 c4_i32_298
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_299 : BitVec 32 := 1#32
  let v149 : BitVec 32 := Scalar.muli v16 c1_i32_299
  let v150 : BitVec 32 := Scalar.addi v148 v149
  v150.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v55 : BitVec 32 := Scalar.extui v12
  let c0_i32_87 : BitVec 32 := 0#32
  let v56 : BitVec 1 := Scalar.cmpi .ne v55 c0_i32_87
  v56

def k0_dev15 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v57 : BitVec 32 := Scalar.extui v12
  let c0_i32_94 : BitVec 32 := 0#32
  let v58 : BitVec 1 := Scalar.cmpi .ne v57 c0_i32_94
  v58

def k0_dev16 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v59 : BitVec 32 := Scalar.extui v12
  let c0_i32_102 : BitVec 32 := 0#32
  let v60 : BitVec 1 := Scalar.cmpi .ne v59 c0_i32_102
  v60

def k0_dev17 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v61 : BitVec 32 := Scalar.extui v12
  let c0_i32_109 : BitVec 32 := 0#32
  let v62 : BitVec 1 := Scalar.cmpi .ne v61 c0_i32_109
  v62

def k0_dev18 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v63 : BitVec 32 := Scalar.extui v12
  let c0_i32_117 : BitVec 32 := 0#32
  let v64 : BitVec 1 := Scalar.cmpi .ne v63 c0_i32_117
  v64

def k0_dev19 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v65 : BitVec 32 := Scalar.extui v12
  let c0_i32_124 : BitVec 32 := 0#32
  let v66 : BitVec 1 := Scalar.cmpi .ne v65 c0_i32_124
  v66

def k0_dev20 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v67 : BitVec 32 := Scalar.extui v12
  let c0_i32_132 : BitVec 32 := 0#32
  let v68 : BitVec 1 := Scalar.cmpi .ne v67 c0_i32_132
  v68

def k0_dev21 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v69 : BitVec 32 := Scalar.extui v12
  let c0_i32_139 : BitVec 32 := 0#32
  let v70 : BitVec 1 := Scalar.cmpi .ne v69 c0_i32_139
  v70

def k0_dev22 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v71 : BitVec 32 := Scalar.extui v12
  let c0_i32_147 : BitVec 32 := 0#32
  let v72 : BitVec 1 := Scalar.cmpi .ne v71 c0_i32_147
  v72

def k0_dev23 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v146 : BitVec 32 := Scalar.muli v2 c16_i32_293
  let v147 : BitVec 32 := Scalar.addi c0_i32_294 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v148 : BitVec 32 := Scalar.muli v5 c4_i32_295
  let v149 : BitVec 32 := Scalar.addi v147 v148
  let c3_i32_4 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.subi c3_i32_4 v8
  let c1_i32_296 : BitVec 32 := 1#32
  let v150 : BitVec 32 := Scalar.muli v14 c1_i32_296
  let v151 : BitVec 32 := Scalar.addi v149 v150
  v151.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v73 : BitVec 32 := Scalar.extui v12
  let c0_i32_154 : BitVec 32 := 0#32
  let v74 : BitVec 1 := Scalar.cmpi .ne v73 c0_i32_154
  v74

def k0_dev24 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v75 : BitVec 32 := Scalar.extui v12
  let c0_i32_161 : BitVec 32 := 0#32
  let v76 : BitVec 1 := Scalar.cmpi .ne v75 c0_i32_161
  v76

def k0_dev25 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v12 : BitVec 1 := Scalar.xori v11 v_true
  let v77 : BitVec 32 := Scalar.extui v12
  let c0_i32_168 : BitVec 32 := 0#32
  let v78 : BitVec 1 := Scalar.cmpi .ne v77 c0_i32_168
  v78

def k0_dev26 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v145 : BitVec 32 := Scalar.muli v2 c16_i32_294
  let v146 : BitVec 32 := Scalar.addi c0_i32_295 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v147 : BitVec 32 := Scalar.muli v5 c4_i32_296
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 1 := Scalar.cmpi .eq v8 c1_i32_5
  let c0_i32_6 : BitVec 32 := 0#32
  let c3_i32_7 : BitVec 32 := 3#32
  let v16 : BitVec 32 := Scalar.select v15 c0_i32_6 c3_i32_7
  let c1_i32_297 : BitVec 32 := 1#32
  let v149 : BitVec 32 := Scalar.muli v16 c1_i32_297
  let v150 : BitVec 32 := Scalar.addi v148 v149
  v150.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S16384x512 : Shape := ⟨2, ![16384, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S16384x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Views.lean ====
/-
  The devices a device talks to, the eight row blocks of a two-axis buffer and the eight slots of a three-axis one,
  and what each buffer of the reduction holds once its block has arrived.

  Device `c` of the mesh is `16 x + 4 y + z`. Along `z` the four devices form a line. The two ends (`z = 0` and `z = 3`)
  send their rows to the neighbour; the two middle devices add, swap with one another, add again, and send back.
-/
module

public import proofs.«01_k».proof.Proof.Gen.KernelIdeal.Skeleton
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.Pipeline.Value
public import Idealize.ShloMosaic.Lib.ValueLayout

@[expose] public section

noncomputable section

namespace Cert.KernelIdeal.Line

open Idealize.ShloMosaic Idealize.ShloMosaic.TcCoe
open Idealize.SL Idealize.SL.Sem
open Cert.KernelIdeal Cert.KernelIdeal.Gen

/-! ## Who talks to whom -/

/-- The device lies in the middle of its line. -/
abbrev Mid (c : Dev nD) : Prop := c.val % 4 = 1 ∨ c.val % 4 = 2

/-- The neighbour across an end link: 0 and 1 are paired, and so are 2 and 3. -/
def near (c : Dev nD) : Dev nD :=
  ⟨if c.val % 2 = 0 then c.val + 1 else c.val - 1, by have := c.isLt; have : nD = 32 := rfl; split <;> omega⟩

/-- The neighbour across the middle link: 1 and 2 are paired. (0 and 3 are too, which no step uses.) -/
def across (c : Dev nD) : Dev nD :=
  ⟨c.val + 3 - 2 * (c.val % 4), by have := c.isLt; have : nD = 32 := rfl; omega⟩

theorem near_near (c : Dev nD) : near (near c) = c := by revert c; decide
theorem across_across (c : Dev nD) : across (across c) = c := by revert c; decide
theorem mid_near (c : Dev nD) : Mid (near c) ↔ ¬ Mid c := by revert c; decide
theorem mid_across (c : Dev nD) : Mid (across c) ↔ Mid c := by revert c; decide
theorem near_ne_across (c : Dev nD) : near c ≠ across c := by revert c; decide

def nearEquiv : Dev nD ≃ Dev nD := ⟨near, near, near_near, near_near⟩
def acrossEquiv : Dev nD ≃ Dev nD := ⟨across, across, across_across, across_across⟩

/-! ## Row blocks and slots -/

/-- The partial sum a device starts from, the result, and the three scratch buffers. -/
abbrev pM : Memref sig .tc .vmem S512x512 .f32 := Memref.whole cc0_stg0_0
abbrev oM : Memref sig .tc .vmem S512x512 .f32 := Memref.whole cc0_stg1_0
abbrev bM : Memref sig .tc .vmem S8x64x512 .f32 := Memref.whole cc0_scratch0
abbrev sM : Memref sig .tc .vmem S8x64x512 .f32 := Memref.whole cc0_scratch1
abbrev mM : Memref sig .tc .vmem S8x64x512 .f32 := Memref.whole cc0_scratch2

theorem inbR (k : Fin 8) : ∀ a, (![64 * k.val, 0] : Fin 2 → ℕ) a + S64x512.size a ≤ S512x512.size a := by
  revert k; decide
theorem inbS (k : Fin 8) : ∀ a, (![k.val, 0, 0] : Fin 3 → ℕ) a + S1x64x512.size a ≤ S8x64x512.size a := by
  revert k; decide

/-- Rows `64 k` to `64 k + 63`. -/
abbrev rectR (k : Fin 8) : Rect S512x512 := Rect.unit (s := S512x512) ![64 * k.val, 0] S64x512.size (inbR k)
/-- Slot `k`. -/
abbrev rectS (k : Fin 8) : Rect S8x64x512 := Rect.unit (s := S8x64x512) ![k.val, 0, 0] S1x64x512.size (inbS k)

abbrev rowsV (M : Memref sig .tc .vmem S512x512 .f32) (k : Fin 8) : Memref sig .tc .vmem S64x512 .f32 :=
  M.slice (rectR k) (fun _ => rfl)
abbrev slotV (M : Memref sig .tc .vmem S8x64x512 .f32) (k : Fin 8) : Memref sig .tc .vmem S64x512 .f32 :=
  (M.slice (rectS k) (fun _ => rfl)).squeeze S64x512 squeezes_S1x64x512_S64x512

/-- The row of a two-axis buffer that entry `i` of a three-axis one stands for: slot `i 0` holds rows from `64 (i 0)`. -/
def flat (i : S8x64x512.Idx) : S512x512.Idx :=
  ValueIdx.ix2 ⟨64 * (i 0).val + (i 1).val, by
    have h0 : (i 0).val < 8 := (i 0).isLt
    have h1 : (i 1).val < 64 := (i 1).isLt
    omega⟩ (i 2)

/-- Dropping the slot's unit axis keeps the other two coordinates. -/
theorem squeeze_idx (h : S64x512.numel = S1x64x512.numel) (x : S64x512.Idx) :
    Shape.reshapeEquiv h x = (ValueIdx.ix3 (0 : Fin 1) (x 0) (x 1) : S1x64x512.Idx) :=
  Shape.reshapeEquiv_eq_of_rowMajor h (by
    rw [Shape.rowMajor_val_three, Shape.rowMajor_val_two]
    show ((0 : ℕ) * 64 + (x 0).val) * 512 + (x 1).val = (x 0).val * 512 + (x 1).val
    omega)

/-- Entry `x` of slot `k` stands for entry `x` of row block `k`. -/
theorem flat_slot (k : Fin 8) (h : S64x512.numel = S1x64x512.numel) (x : S64x512.Idx) :
    flat ((rectS k).emb (Shape.reshapeEquiv h x)) = (rectR k).emb x := by
  rw [squeeze_idx]
  funext a
  apply Fin.ext
  match a with
  | ⟨0, _⟩ =>
    show 64 * (k.val + 1 * 0) + (0 + 1 * (x 0).val) = 64 * k.val + 1 * (x 0).val
    omega
  | ⟨1, _⟩ => rfl

/-- The same, the slot's entry named by its own index and the block's by what a cast makes of it. -/
theorem flat_entry (k : Fin 8) (h : S1x64x512.numel = S64x512.numel) (y : S1x64x512.Idx) :
    (rectR k).emb (Shape.reshapeEquiv h y) = flat ((rectS k).emb y) := by
  rw [← flat_slot k h.symm]
  congr 2
  exact (Shape.reshapeEquiv h).symm_apply_apply y

/-! ## A view's own elements -/

/-- What is written through a whole view holds `g` on the view's elements, if each written value is `g` where it lands. -/
theorem write_agrees {Val : EltTy → Type} {sp : Space} {s : Shape} {e : EltTy} (v : View sig .tc sp s e) (fd : v.ty.Contents Val) (w : s.Idx → Val e)
    (g : v.ty.Contents Val) (h : ∀ x, _root_.cast (congrArg Val v.elt_eq.symm) (w x) = g (v.emb x)) :
    ∀ i ∈ v.set, v.write Val fd w Finset.univ i = g i := by
  intro i hi
  obtain ⟨x, -, rfl⟩ := Finset.mem_map.mp hi
  rw [View.write_emb_of_mem _ _ (Finset.mem_univ x), h x]

/-! ## What the buffers hold -/

section Contents

variable {F : FTy → Type} [FloatOps F] (P : Dev nD → Vec F S512x512 .f32)

/-- A middle device's first sum: its own partial sum and its end neighbour's. -/
def sumP (c : Dev nD) : Vec F S512x512 .f32 := addf (P c) (P (near c))

/-- A middle device's result: its first sum and the other middle device's. -/
def midOut (c : Dev nD) : Vec F S512x512 .f32 := addf (sumP P c) (sumP P (across c))

/-- The result: an end device has its neighbour's. -/
def outP (c : Dev nD) : Vec F S512x512 .f32 := if Mid c then midOut P c else midOut P (near c)

/-- The slots a middle device receives from the end, those it forms, and those it receives from the other middle device. -/
def recvP (c : Dev nD) : Vec F S8x64x512 .f32 := fun i => P (near c) (flat i)
def formP (c : Dev nD) : Vec F S8x64x512 .f32 := fun i => sumP P c (flat i)
def swapP (c : Dev nD) : Vec F S8x64x512 .f32 := fun i => sumP P (across c) (flat i)

variable {P}

theorem outP_near {c : Dev nD} (h : Mid c) : outP P (near c) = outP P c := by
  unfold outP
  rw [if_pos h, if_neg ((mid_near c).not.mpr (not_not.mpr h)), near_near]

/-- The first hop lands: row block `k` of an end device in slot `k` of its neighbour. -/
theorem land_recv (c : Dev nD) (k : Fin 8) (fd : Vec F S8x64x512 .f32) :
    ∀ i ∈ (slotV bM k).view.set, (slotV bM k).view.write (Elt F) fd ((rowsV pM k).view.read (Elt F) (P c)) Finset.univ i = recvP P (near c) i :=
  write_agrees (slotV bM k).view fd _ (recvP P (near c)) fun x => by
    unfold recvP
    rw [near_near]
    exact (congrArg (P c) (flat_slot k _ x)).symm

/-- The second hop lands: slot `k` of one middle device in slot `k` of the other. -/
theorem land_swap (c : Dev nD) (k : Fin 8) (fd : Vec F S8x64x512 .f32) :
    ∀ i ∈ (slotV mM k).view.set, (slotV mM k).view.write (Elt F) fd ((slotV sM k).view.read (Elt F) (formP P c)) Finset.univ i = swapP P (across c) i :=
  write_agrees (slotV mM k).view fd _ (swapP P (across c)) fun x => by
    unfold swapP
    rw [across_across]
    rfl

/-- The third hop lands: row block `k` of a middle device's result in the same rows of its end neighbour's. -/
theorem land_out {c : Dev nD} (h : Mid c) (k : Fin 8) (fd : Vec F S512x512 .f32) :
    ∀ i ∈ (rowsV oM k).view.set, (rowsV oM k).view.write (Elt F) fd ((rowsV oM k).view.read (Elt F) (outP P c)) Finset.univ i = outP P (near c) i :=
  write_agrees (rowsV oM k).view fd _ (outP P (near c)) fun x => by
    rw [outP_near h]
    rfl

/-- What a middle device forms in slot `k`. -/
theorem store_form (c : Dev nD) (k : Fin 8) (fd : Vec F S8x64x512 .f32) :
    ∀ i ∈ (sM.access (rectS k)).set, (sM.access (rectS k)).write (Elt F) fd (k0_pay1 ((pM.access (rectR k)).read (Elt F) (P c)) ((bM.access (rectS k)).read (Elt F) (recvP P c))) Finset.univ i
      = formP P c i :=
  write_agrees (sM.access (rectS k)) fd _ (formP P c) fun y => by
    unfold formP sumP k0_pay1
    show FloatOps.addf (shapeCast S64x512 _ _ (Shape.reshapeEquiv _ y)) (shapeCast S64x512 _ _ (Shape.reshapeEquiv _ y)) = FloatOps.addf (P c (flat ((rectS k).emb y))) (P (near c) (flat ((rectS k).emb y)))
    rw [shapeCast_self]
    congr 1
    · exact congrArg (P c) (flat_entry k _ y)
    · show P (near c) (flat ((rectS k).emb (Shape.reshapeEquiv _ (Shape.reshapeEquiv _ y)))) = _
      rw [flat_slot, flat_entry]

/-- What a middle device stores of its result in row block `k`. -/
theorem store_out {c : Dev nD} (h : Mid c) (k : Fin 8) (fd : Vec F S512x512 .f32) :
    ∀ i ∈ (oM.access (rectR k)).set, (oM.access (rectR k)).write (Elt F) fd (k0_pay9 ((sM.access (rectS k)).read (Elt F) (formP P c)) ((mM.access (rectS k)).read (Elt F) (swapP P c))) Finset.univ i
      = outP P c i :=
  write_agrees (oM.access (rectR k)) fd _ (outP P c) fun x => by
    unfold outP midOut
    rw [if_pos h]
    show FloatOps.addf (sumP P c (flat ((rectS k).emb (Shape.reshapeEquiv _ x)))) (sumP P (across c) (flat ((rectS k).emb (Shape.reshapeEquiv _ x)))) = FloatOps.addf (sumP P c ((rectR k).emb x)) (sumP P (across c) ((rectR k).emb x))
    rw [flat_slot]

end Contents

/-! ## The blocks and the slots tile their buffers -/

theorem rows_set (M : Memref sig .tc .vmem S512x512 .f32) (k : Fin 8) : (rowsV M k).view.set = (M.access (rectR k)).set := rfl
theorem slot_set (M : Memref sig .tc .vmem S8x64x512 .f32) (k : Fin 8) : (slotV M k).view.set = (M.access (rectS k)).set :=
  View.set_reshape _ _

theorem rect_rows_disjoint (k k' : Fin 8) (h : k ≠ k') : Disjoint (rectR k).set (rectR k').set :=
  Rect.unit_disjoint 0 (by
    have : k.val ≠ k'.val := fun e => h (Fin.ext e)
    show 64 * k.val + 64 ≤ 64 * k'.val ∨ 64 * k'.val + 64 ≤ 64 * k.val
    omega)
theorem rect_slot_disjoint (k k' : Fin 8) (h : k ≠ k') : Disjoint (rectS k).set (rectS k').set :=
  Rect.unit_disjoint 0 (by
    have : k.val ≠ k'.val := fun e => h (Fin.ext e)
    show k.val + 1 ≤ k'.val ∨ k'.val + 1 ≤ k.val
    omega)
theorem rect_rows_cover : (Finset.univ : Finset (Fin 8)).biUnion (fun k => (rectR k).set) = Finset.univ := by
  ext i
  simp only [Finset.mem_biUnion, Finset.mem_univ, true_and, iff_true]
  have h0 : (i 0).val < 512 := (i 0).isLt
  have h1 : (i 1).val < 512 := (i 1).isLt
  refine ⟨⟨(i 0).val / 64, by omega⟩, Rect.mem_set_unit.mpr fun a => ?_⟩
  match a with
  | ⟨0, _⟩ => show 64 * ((i 0).val / 64) ≤ (i 0).val ∧ (i 0).val < 64 * ((i 0).val / 64) + 64; omega
  | ⟨1, _⟩ => show 0 ≤ (i 1).val ∧ (i 1).val < 0 + 512; omega
theorem rect_slot_cover : (Finset.univ : Finset (Fin 8)).biUnion (fun k => (rectS k).set) = Finset.univ := by
  ext i
  simp only [Finset.mem_biUnion, Finset.mem_univ, true_and, iff_true]
  have h0 : (i 0).val < 8 := (i 0).isLt
  have h1 : (i 1).val < 64 := (i 1).isLt
  have h2 : (i 2).val < 512 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 64; omega
  | ⟨2, _⟩ => show 0 ≤ (i 2).val ∧ (i 2).val < 0 + 512; omega

/-- The same of any buffer's view: its row blocks (its slots) are disjoint and make it up. -/
theorem rows_disjoint (M : Memref sig .tc .vmem S512x512 .f32) (k k' : Fin 8) (h : k ≠ k') : Disjoint (rowsV M k).view.set (rowsV M k').view.set := by
  rw [View.set_slice, View.set_slice]
  exact (Finset.disjoint_map _).mpr (rect_rows_disjoint k k' h)
theorem slot_disjoint (M : Memref sig .tc .vmem S8x64x512 .f32) (k k' : Fin 8) (h : k ≠ k') : Disjoint (slotV M k).view.set (slotV M k').view.set := by
  rw [slot_set, slot_set, View.set_slice, View.set_slice]
  exact (Finset.disjoint_map _).mpr (rect_slot_disjoint k k' h)
theorem rows_cover (M : Memref sig .tc .vmem S512x512 .f32) : (Finset.univ : Finset (Fin 8)).biUnion (fun k => (rowsV M k).view.set) = M.view.set := by
  ext i
  simp only [Finset.mem_biUnion, Finset.mem_univ, true_and, View.set_slice]
  unfold View.set
  rw [← rect_rows_cover]
  simp only [Finset.mem_map, Finset.mem_biUnion, Finset.mem_univ, true_and]
  exact ⟨fun ⟨k, x, hx, e⟩ => ⟨x, ⟨k, hx⟩, e⟩, fun ⟨x, ⟨k, hx⟩, e⟩ => ⟨k, x, hx, e⟩⟩
theorem slot_cover (M : Memref sig .tc .vmem S8x64x512 .f32) : (Finset.univ : Finset (Fin 8)).biUnion (fun k => (slotV M k).view.set) = M.view.set := by
  have hk : ∀ k, (slotV M k).view.set = (rectS k).set.map M.view.emb := fun k => (slot_set M k).trans (View.set_slice _ _)
  ext i
  simp only [Finset.mem_biUnion, Finset.mem_univ, true_and, hk]
  unfold View.set
  rw [← rect_slot_cover]
  simp only [Finset.mem_map, Finset.mem_biUnion, Finset.mem_univ, true_and]
  exact ⟨fun ⟨k, x, hx, e⟩ => ⟨x, ⟨k, hx⟩, e⟩, fun ⟨x, ⟨k, hx⟩, e⟩ => ⟨k, x, hx, e⟩⟩

end Cert.KernelIdeal.Line

end
-- ==== Proof.Schedule.lean ====
/-
  Which counter is raised by whom, by how much, and what comes with it; what each device owes at launch; the order in
  which waits may happen.
-/
module

public import proofs.«01_k».proof.Proof.Views

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-- The pipeline library's copy of the rounds algebra, and this protocol's, whose duties are told apart by a flag. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

abbrev barS : Sem sig := barrier11
/-- Chunk `k`'s semaphore of family `j`: 0 and 1 the first hop's send and receive, 2 and 3 the second's, 4 and 5 the third's. -/
def dS (j : Fin 6) (k : Fin 8) : DmaSem sig := ⟨2 + 8 * j.val + k.val, by
  have := j.isLt; have := k.isLt
  show 2 + 8 * j.val + k.val < 50
  omega⟩
abbrev barCell (c : Dev nD) : GSem nD τ sig := ((c : Thread nD τ), .reg barS)
abbrev cell (c : Dev nD) (j : Fin 6) (k : Fin 8) : GSem nD τ sig := ((c : Thread nD τ), .dma (dS j k))

/-- The units one block's transfer is worth. -/
abbrev N : ℕ := (rowsV pM 0).view.dmaCredit
theorem N_pos : 0 < N := View.dmaCredit_pos _ (by decide)
theorem credit_rows (k : Fin 8) (M : Memref sig .tc .vmem S512x512 .f32) : (rowsV M k).view.dmaCredit = N := rfl
theorem credit_slot (k : Fin 8) (M : Memref sig .tc .vmem S8x64x512 .f32) : (slotV M k).view.dmaCredit = N := rfl

/-- Family and chunk of a transfer semaphore; the first two semaphores are the pipeline's and belong to no family. -/
def famOf (i : DmaSem sig) : ℕ := if 2 ≤ i.val then (i.val - 2) / 8 else 6
def chunkOf (i : DmaSem sig) : Fin 8 := ⟨(i.val - 2) % 8, Nat.mod_lt _ (by decide)⟩
theorem famOf_dS (j : Fin 6) (k : Fin 8) : famOf (dS j k) = j.val := by
  have := k.isLt
  unfold famOf
  rw [if_pos (show 2 ≤ (dS j k).val by show 2 ≤ 2 + 8 * j.val + k.val; omega)]
  show (2 + 8 * j.val + k.val - 2) / 8 = j.val
  omega
theorem chunkOf_dS (j : Fin 6) (k : Fin 8) : chunkOf (dS j k) = k := by
  have := k.isLt
  apply Fin.ext
  show (2 + 8 * j.val + k.val - 2) % 8 = k.val
  omega
theorem dS_inj {j j' : Fin 6} {k k' : Fin 8} (h : dS j k = dS j' k') : j = j' ∧ k = k' := by
  constructor
  · apply Fin.ext; rw [← famOf_dS j k, ← famOf_dS j' k', h]
  · rw [← chunkOf_dS j k, ← chunkOf_dS j' k', h]

/-- The families a device of either role uses. -/
def Used (c : Dev nD) (j : ℕ) : Prop := if Mid c then 1 ≤ j ∧ j ≤ 4 else j = 0 ∨ j = 5
instance (c : Dev nD) (j : ℕ) : Decidable (Used c j) := by unfold Used; infer_instance

/-! ## What is handed over -/

/-- Row block `k` and slot `k` of a device's buffer. -/
abbrev rowsPt (M : Memref sig .tc .vmem S512x512 .f32) (c : Dev nD) (k : Fin 8) (q : PosShare TreeShare) (f : Buf (Elt F) ((rowsV M k).view.loc (c : Thread nD τ))) : sProp 𝕄 :=
  (rowsV M k).view.loc (c : Thread nD τ) ↦[(rowsV M k).view.set]{q} f
abbrev slotPt (M : Memref sig .tc .vmem S8x64x512 .f32) (c : Dev nD) (k : Fin 8) (q : PosShare TreeShare) (f : Buf (Elt F) ((slotV M k).view.loc (c : Thread nD τ))) : sProp 𝕄 :=
  (slotV M k).view.loc (c : Thread nD τ) ↦[(slotV M k).view.set]{q} f

/-- One slot or block to write into, at contents not named, and that its receive counter is at its first round. -/
def offerRecv (e : Dev nD) (k : Fin 8) : sProp 𝕄 := iprop((∃ f, slotPt (F := F) bM e k fullShare f) ∗ reached ER (cell e 1 k) 0)
def offerSwap (e : Dev nD) (k : Fin 8) : sProp 𝕄 := iprop((∃ f, slotPt (F := F) mM e k fullShare f) ∗ reached ER (cell e 3 k) 0)
def offerOut (e : Dev nD) (k : Fin 8) : sProp 𝕄 := iprop((∃ f, rowsPt (F := F) oM e k fullShare f) ∗ reached ER (cell e 5 k) 0)

/-- With a barrier unit paid to `c`: from the other middle device its swap slots; from an end device the rows of its
    result; from the neighbour of an end device its receive slots. -/
def barPay (c : Dev nD) (d : Bool) : sProp 𝕄 :=
  if d then bigSep Finset.univ (fun k => offerSwap (F := F) (across c) k)
  else if Mid c then bigSep Finset.univ (fun k => offerOut (F := F) (near c) k)
  else bigSep Finset.univ (fun k => offerRecv (F := F) (near c) k)

variable [FloatOps F] (P : Dev nD → Vec F S512x512 .f32)

/-- With a transfer's units: the source back to its owner, or the destination filled. -/
def dmaPay (c : Dev nD) (j : ℕ) (k : Fin 8) : sProp 𝕄 :=
  if j = 0 then rowsPt pM c k fullShare (P c)
  else if j = 1 then slotPt bM c k fullShare (recvP P c)
  else if j = 2 then slotPt sM c k fullShare.left (formP P c)
  else if j = 3 then slotPt mM c k fullShare (swapP P c)
  else if j = 4 then rowsPt oM c k fullShare (outP P c)
  else if j = 5 then rowsPt oM c k fullShare (outP P c)
  else iprop(emp)

/-- One round on every counter: an end device's barrier takes one unit, a middle device's two; each transfer counter in
    use takes one transfer. -/
def Rd : Rounds.Schedule (GSem nD τ sig) Bool 𝕄 where
  duties g r := if r = 0 ∧ g.1.2 = .tc then
      (match g.2 with
        | .reg _ => if Mid g.1.1 then {false, true} else {false}
        | .dma i => if Used g.1.1 (famOf i) then {false} else ∅)
    else ∅
  unitless _ := False
  amount g _ _ := match g.2 with | .reg _ => 1 | .dma _ => N
  payload g _ d := match g.2 with | .reg _ => barPay g.1.1 d | .dma i => dmaPay P g.1.1 (famOf i) (chunkOf i)
  amount_pos g _ _ _ := by
    cases g.2 with
    | reg _ => exact Nat.one_pos
    | dma _ => exact N_pos

instance Rd_storable (g : GSem nD τ sig) (r : ℕ) (d : Bool) : BI.Storable (upEmb : UEmb _ 𝕄) ((Rd P).payload g r d) := by
  show BI.Storable upEmb (match g.2 with | .reg _ => barPay g.1.1 d | .dma i => dmaPay P g.1.1 (famOf i) (chunkOf i))
  cases g.2 with
  | reg _ =>
    show BI.Storable upEmb (barPay g.1.1 d)
    unfold barPay offerRecv offerSwap offerOut
    (repeat' split) <;> infer_instance
  | dma i =>
    show BI.Storable upEmb (dmaPay P g.1.1 (famOf i) (chunkOf i))
    unfold dmaPay
    (repeat' split) <;> infer_instance

section Sched

variable (c : Dev nD)

theorem duties_bar_mid (h : Mid c) : (Rd P).duties (barCell c) 0 = {false, true} := by
  dsimp only [Rd]; rw [if_pos ⟨rfl, rfl⟩]; exact if_pos h
theorem duties_bar_end (h : ¬ Mid c) : (Rd P).duties (barCell c) 0 = {false} := by
  dsimp only [Rd]; rw [if_pos ⟨rfl, rfl⟩]; exact if_neg h
theorem duties_cell (j : Fin 6) (k : Fin 8) (h : Used c j.val) : (Rd P).duties (cell c j k) 0 = {false} := by
  dsimp only [Rd]; rw [if_pos ⟨rfl, rfl⟩, famOf_dS]; exact if_pos h
theorem duties_unused (j : Fin 6) (k : Fin 8) (h : ¬ Used c j.val) (r : ℕ) : (Rd P).duties (cell c j k) r = ∅ := by
  dsimp only [Rd]; rw [famOf_dS, if_neg h]; exact ite_self _
theorem duties_later (g : GSem nD τ sig) : ∀ r, 1 ≤ r → (Rd P).duties g r = ∅ :=
  fun r hr => by dsimp only [Rd]; rw [if_neg (fun h => by omega)]
theorem false_mem_bar : false ∈ (Rd P).duties (barCell c) 0 := by
  by_cases h : Mid c
  · rw [duties_bar_mid P c h]; decide
  · rw [duties_bar_end P c h]; decide

theorem amount_bar (r : ℕ) (d : Bool) : (Rd P).amount (barCell c) r d = 1 := rfl
theorem amount_cell (j : Fin 6) (k : Fin 8) (r : ℕ) (d : Bool) : (Rd P).amount (cell c j k) r d = N := rfl

theorem expect_bar_mid (h : Mid c) : (Rd P).expect (barCell c) 0 = 2 := by
  unfold Schedule.expect Schedule.amountOf; rw [duties_bar_mid P c h]; rfl
theorem expect_bar_end (h : ¬ Mid c) : (Rd P).expect (barCell c) 0 = 1 := by
  unfold Schedule.expect Schedule.amountOf; rw [duties_bar_end P c h]; rfl
theorem expect_cell (j : Fin 6) (k : Fin 8) (h : Used c j.val) : (Rd P).expect (cell c j k) 0 = N := by
  unfold Schedule.expect Schedule.amountOf; rw [duties_cell P c j k h, Finset.sum_singleton, amount_cell]

theorem payload_bar (r : ℕ) (d : Bool) : (Rd P).payload (barCell c) r d = barPay c d := rfl
theorem payload_cell (j : Fin 6) (k : Fin 8) (r : ℕ) (d : Bool) : (Rd P).payload (cell c j k) r d = dmaPay P c j.val k := by
  dsimp only [Rd]; rw [famOf_dS, chunkOf_dS]

theorem rest_cell (j : Fin 6) (k : Fin 8) (h : Used c j.val) :
    bigSep ((Rd P).duties (cell c j k) 0 \ ∅) (fun d => (Rd P).payload (cell c j k) 0 d) = dmaPay P c j.val k := by
  rw [Finset.sdiff_empty, duties_cell P c j k h, bigSep_singleton, payload_cell]

end Sched

/-! ## What is owed -/

/-- The transfers still owed to the cells `g`, from chunk `a` on. -/
def due (g : Fin 8 → GSem nD τ sig) (a : ℕ) : CellTallies nD τ sig Unit :=
  ∑ k ∈ Finset.univ.filter (fun k : Fin 8 => a ≤ k.val), tallyAt (g k) () N

theorem due_succ (g : Fin 8 → GSem nD τ sig) (k : Fin 8) : due g k.val = due g (k.val + 1) + tallyAt (g k) () N := by
  unfold due
  have : Finset.univ.filter (fun j : Fin 8 => k.val ≤ j.val) = insert k (Finset.univ.filter (fun j : Fin 8 => k.val + 1 ≤ j.val)) := by
    revert k; decide
  rw [this, Finset.sum_insert (by simp), add_comm]
theorem due_end (g : Fin 8 → GSem nD τ sig) : due g 8 = 0 := by
  unfold due
  rw [show Finset.univ.filter (fun j : Fin 8 => 8 ≤ j.val) = ∅ by decide, Finset.sum_empty]
theorem due_apply (g : Fin 8 → GSem nD τ sig) (a : ℕ) (x : GSem nD τ sig) (u : Unit) :
    due g a x u = ∑ k ∈ Finset.univ.filter (fun k : Fin 8 => a ≤ k.val), (tallyAt (g k) () N : CellTallies nD τ sig Unit) x u := by
  unfold due
  rw [Finset.sum_apply, Finsupp.finset_sum_apply]
theorem due_pos (g : Fin 8 → GSem nD τ sig) (a : ℕ) (x : GSem nD τ sig) (u : Unit) (h : 0 < due g a x u) : ∃ k : Fin 8, a ≤ k.val ∧ x = g k := by
  rw [due_apply] at h
  obtain ⟨k, hk, hne⟩ := Finset.exists_ne_zero_of_sum_ne_zero (Nat.pos_iff_ne_zero.mp h)
  refine ⟨k, (Finset.mem_filter.mp hk).2, ?_⟩
  rw [tallyAt_apply] at hne
  by_contra hx
  exact hne (if_neg (fun e => hx e.1))

/-! ## The order of waiting -/

def L (g : GSem nD τ sig) : Finset Unit := if g.1.2 = .tc then {()} else ∅
/-- The barrier first, then the first hop, then the second hop chunk by chunk, then the third. -/
def lv (g : GSem nD τ sig) (_ : Unit) : ℕ :=
  match g.2 with
  | .reg _ => 1
  | .dma i => if famOf i = 1 then 2 else if famOf i = 3 then 3 + (chunkOf i).val else if famOf i = 5 then 20 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Fin 6) (k : Fin 8) : lv (cell c j k) () = if j.val = 1 then 2 else if j.val = 3 then 3 + k.val else if j.val = 5 then 20 else 0 := by
  dsimp only [lv]; rw [famOf_dS, chunkOf_dS]

/-- A wait is allowed if everything owed is at a higher level. -/
theorem mayWait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp])
    (fun g u hg => (h g u hg).2)

end Cert.KernelIdeal.Line

end
-- ==== Proof.Steps.lean ====
/-
  The kernel's steps, one chunk at a time: what each needs and what it leaves.
-/
module

public import proofs.«01_k».proof.Proof.Schedule

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A piece of the kernel's program. -/
abbrev Piece (F : FTy → Type) : Type 1 := Prog (TpuEff nD τ sig (Elt F) Λ₀ .tc) PUnit

/-- The kernel's program run on a device. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

variable (P : Dev nD → Vec F S512x512 .f32)

/-- The counters' invariants at the names `κ`, that the barrier counters are at their first round, and the levels. -/
def ctx (κ : GSem nD τ sig → ℕ) : sProp 𝕄 :=
  iprop((bigSep Finset.univ fun c : Dev nD => iprop(cellInv ER (Rd P) (κ (barCell c)) (barCell c) ∗ reached ER (barCell c) 0))
    ∗ (bigSep Finset.univ fun x : Dev nD × Fin 6 × Fin 8 => cellInv ER (Rd P) (κ (cell x.1 x.2.1 x.2.2)) (cell x.1 x.2.1 x.2.2))
    ∗ levAts L lv)

instance ctx_persistent (κ : GSem nD τ sig → ℕ) : BI.Persistent (ctx P κ) := by unfold ctx; infer_instance

/-- Either conjunct alone, the other dropped. -/
theorem left_of {A B : sProp 𝕄} : iprop(A ∗ B) ⊢ A := BI.Entails.trans BI.sep_and and_elimL
theorem right_of {A B : sProp 𝕄} : iprop(A ∗ B) ⊢ B := BI.Entails.trans BI.sep_and and_elimR

theorem ctx_bar (κ : GSem nD τ sig → ℕ) (c : Dev nD) : ctx P κ ⊢ cellInv ER (Rd P) (κ (barCell c)) (barCell c) :=
  left_of.trans ((bigSep_elim (Finset.mem_univ c)).trans left_of)
theorem ctx_reached (κ : GSem nD τ sig → ℕ) (c : Dev nD) : ctx P κ ⊢ reached ER (barCell c) 0 :=
  left_of.trans ((bigSep_elim (Finset.mem_univ c)).trans right_of)
theorem ctx_cell (κ : GSem nD τ sig → ℕ) (c : Dev nD) (j : Fin 6) (k : Fin 8) : ctx P κ ⊢ cellInv ER (Rd P) (κ (cell c j k)) (cell c j k) :=
  right_of.trans (left_of.trans (bigSep_elim (Finset.mem_univ ((c, j, k) : Dev nD × Fin 6 × Fin 8))))
theorem ctx_may (κ : GSem nD τ sig → ℕ) (c : Dev nD) (sm : SemLoc sig) (O : CellTallies nD τ sig Unit)
    (h : (levAts L lv : sProp 𝕄) ⊢ MayWait (c : Thread nD τ) sm () O) : ctx P κ ⊢ MayWait (c : Thread nD τ) sm () O := by
  unfold ctx
  iintro ⟨-, -, H⟩
  iapply h
  iexact H

/-- What a device still owes, whatever it has waited for. -/
def owing (c : Dev nD) (O : CellTallies nD τ sig Unit) : sProp 𝕄 := iprop(∃ W, owes (c : Thread nD τ) O W)

/-! ## Waiting for a transfer -/

theorem wait_cell (κ : GSem nD τ sig → ℕ) (c : Dev nD) (j : Fin 6) (k : Fin 8) (hu : Used c j.val)
    {sp sp' : Space} {s s' : Shape} {e e' : EltTy} {src : Memref sig .tc sp' s' e'} {dst : Memref sig .tc sp s e} {h1 : src.view.WordExact} {h2 : dst.view.WordExact}
    (hN : dst.view.dmaCredit = N) (O : CellTallies nD τ sig Unit) (hO : (levAts L lv : sProp 𝕄) ⊢ MayWait (c : Thread nD τ) (.dma (dS j k)) () O)
    {α : Type} (rest : PUnit → Prog (TpuEff nD τ sig (Elt F) Λ₀ .tc) α) (Q : α → sProp 𝕄) :
    iprop(ctx P κ ∗ cred (tallyAt (cell c j k) () N) ∗ owing (F := F) c O ∗ atPos ER (cell c j k) 0 ∅ 0)
      ⊢ iprop(((owing (F := F) c O ∗ atPos ER (cell c j k) (0 + 1) ∅ 0 ∗ dmaPay P c j.val k) -∗ run c (rest ⟨⟩) Q)
        -∗ run c (.op (.waitDma2 (dS j k) src dst h1 h2) rest) Q) := by
  unfold owing
  iintro ⟨#Hctx, Hc, ⟨%W, HO⟩, Hat⟩ Hk
  iapply (Rounds.wp_wait_rest_token 𝒱₀ ER (Rd P) (c : Thread nD τ) none (κ := κ (cell c j k))
      (wpE_waitDma2_eq (src := src) (dst := dst) 𝒱₀ (c : Thread nD τ) none Set.univ) (Set.mem_univ _) () (O := O) (W := W) (R := 0) (m := 0) (T := ∅)
      ((Nat.zero_add _).trans (hN.trans (expect_cell P c j k hu).symm))) $$ [Hc HO Hat]
  · isplitr; · iapply (ctx_cell P κ c j k); iexact Hctx
    isplitl [Hc]; · iapply (Entails.of_eq (congrArg (fun n => (cred (tallyAt (cell c j k) () n) : sProp 𝕄)) hN.symm)); iexact Hc
    isplitl [HO]; · iexact HO
    isplitr; · iapply (ctx_may P κ c _ _ hO); iexact Hctx
    iexact Hat
  iintro ⟨HO, Hat, -, Hpay⟩
  ihave Hp := (Entails.of_eq (rest_cell P c j k hu)) $$ Hpay
  iapply Hk
  isplitl [HO]; · iexists _; iexact HO
  isplitl [Hat]; · iexact Hat
  iexact Hp

/-! ## Sending a block -/

theorem send_cell (κ : GSem nD τ sig → ℕ) (c e : Dev nD) (j j' : Fin 6) (k : Fin 8) (hu : Used c j.val) (hu' : Used e j'.val)
    {sp sp' : Space} {s : Shape} {el : EltTy} {src : Memref sig .tc sp s el} {dst : Memref sig .tc sp' s el}
    {hsc : dst.view.ref.isScScratch = false} {h1 : src.view.WordExact} {h2 : dst.view.WordExact}
    {h3 : DmaTarget.Typed (τ := τ) sp (.dma (dS j' k)) (.remote (e : Thread nD τ) dst (.dma (dS j k)) hsc)}
    (hN : dst.view.amount (.dma (dS j' k)) = N) (q : PosShare TreeShare)
    (fs : Buf (Elt F) (src.view.loc (c : Thread nD τ))) (fd : Buf (Elt F) (dst.view.loc (e : Thread nD τ)))
    (hp1 : (src.view.loc (c : Thread nD τ) ↦[src.view.set]{q} fs : sProp 𝕄) ⊢ dmaPay P c j.val k)
    (hp2 : (dst.view.loc (e : Thread nD τ) ↦[dst.view.set]{fullShare} (dst.view.write (Elt F) fd (src.view.read (Elt F) fs) Finset.univ) : sProp 𝕄) ⊢ dmaPay P e j'.val k)
    (O₀ O : CellTallies nD τ sig Unit) (hO : O₀ = O + tallyAt (cell e j' k) () N)
    {α : Type} (rest : PUnit → Prog (TpuEff nD τ sig (Elt F) Λ₀ .tc) α) (Q : α → sProp 𝕄) :
    iprop(ctx P κ ∗ (src.view.loc (c : Thread nD τ) ↦[src.view.set]{q} fs) ∗ (dst.view.loc (e : Thread nD τ) ↦[dst.view.set]{fullShare} fd)
        ∗ owing (F := F) c O₀ ∗ dutyTok ER (cell c j k) 0 false ∗ reached ER (cell c j k) 0 ∗ dutyTok ER (cell e j' k) 0 false ∗ reached ER (cell e j' k) 0)
      ⊢ iprop(((cred (tallyAt (cell c j k) () N) ∗ owing (F := F) c O) -∗ run c (rest ⟨⟩) Q)
        -∗ run c (.op (.enqueueDma src (.remote (e : Thread nD τ) dst (.dma (dS j k)) hsc) (.dma (dS j' k)) h1 h2 h3) rest) Q) := by
  unfold owing
  iintro ⟨#Hctx, Hs, Hd, ⟨%W, HO⟩, Ht, Hr, Ht', Hr'⟩ Hk
  iapply (Rounds.wp_send_pointsTo 𝒱₀ ER (Rd P) (c : Thread nD τ) none (c' := (e : Thread nD τ)) (src := src) (dst := dst)
      (sS := .dma (dS j k)) (sem := .dma (dS j' k)) (q := q) (fs := fs) (κ₁ := κ (cell c j k)) (κ₂ := κ (cell e j' k))
      (r₁ := 0) (r₂ := 0) (d₁ := false) (d₂ := false) (fd := fd)
      (by rw [duties_cell P c j k hu]; exact Finset.mem_singleton_self _) (by rw [duties_cell P e j' k hu']; exact Finset.mem_singleton_self _)
      () () N hN (amount_cell P c j k 0 false) (amount_cell P e j' k 0 false) O hO (W := W)
      (by rw [payload_cell]; exact hp1) (by rw [payload_cell]; exact hp2)) $$ [Hs Hd HO Ht Hr Ht' Hr']
  · isplitr; · iapply (ctx_cell P κ c j k); iexact Hctx
    isplitr; · iapply (ctx_cell P κ e j' k); iexact Hctx
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-! ## The steps as programs -/

variable {α : Type}

abbrev Rest (F : FTy → Type) (α : Type) : Type 1 := Prog (TpuEff nD τ sig (Elt F) Λ₀ .tc) α

/-- An end device sends row block `k` of its partial sum. -/
def sendE (k : Fin 8) (d : Dev nD) (rest : PUnit → Rest F α) : Rest F α :=
  .op (.enqueueDma (rowsV pM k) (.remote (Dev.tc d) (slotV bM k) (.dma (dS 0 k))) (.dma (dS 1 k)) (View.wordExact_bits rfl) ((View.wordExact_bits rfl).reshape _ _) ⟨⟨rfl, Or.inl rfl⟩, trivial⟩) rest

/-- A middle device receives block `k` from the end, adds its own, and sends the sum to the other middle device. -/
def formE (k : Fin 8) (d : Dev nD) (rest : PUnit → Rest F α) : Rest F α :=
  .op (.waitDma2 (dS 1 k) (rowsV pM k) (slotV bM k) (View.wordExact_bits rfl) ((View.wordExact_bits rfl).reshape _ _)) fun _ =>
  .op (.load pM (rectR k).toLoadRect (View.loadsAt_vmem h_S64x512)) fun a =>
  .op (.load bM (rectS k).toLoadRect (View.loadsAt_vmem h_S1x64x512)) fun b =>
  .op (.load sM (rectS k).toLoadRect (View.loadsAt_vmem h_S1x64x512)) fun _ =>
  .op (.store sM (rectS k) (k0_pay1 a b) Finset.univ (View.stores_vmem_bits_univ h_S1x64x512 rfl) (.inl rfl)) fun _ =>
  .op (.enqueueDma (slotV sM k) (.remote (Dev.tc d) (slotV mM k) (.dma (dS 2 k))) (.dma (dS 3 k)) ((View.wordExact_bits rfl).reshape _ _) ((View.wordExact_bits rfl).reshape _ _) ⟨⟨rfl, Or.inl rfl⟩, trivial⟩) rest

/-- A middle device receives the other's sum `k`, adds its own, and sends the result back to the end. -/
def backE (k : Fin 8) (d : Dev nD) (rest : PUnit → Rest F α) : Rest F α :=
  .op (.waitDma2 (dS 3 k) (slotV sM k) (slotV mM k) ((View.wordExact_bits rfl).reshape _ _) ((View.wordExact_bits rfl).reshape _ _)) fun _ =>
  .op (.load sM (rectS k).toLoadRect (View.loadsAt_vmem h_S1x64x512)) fun a =>
  .op (.load mM (rectS k).toLoadRect (View.loadsAt_vmem h_S1x64x512)) fun b =>
  .op (.load oM (rectR k).toLoadRect (View.loadsAt_vmem h_S64x512)) fun _ =>
  .op (.store oM (rectR k) (k0_pay9 a b) Finset.univ (View.stores_vmem_bits_univ h_S64x512 rfl) (.inl rfl)) fun _ =>
  .op (.enqueueDma (rowsV oM k) (.remote (Dev.tc d) (rowsV oM k) (.dma (dS 4 k))) (.dma (dS 5 k)) (View.wordExact_bits rfl) (View.wordExact_bits rfl) ⟨⟨rfl, Or.inl rfl⟩, trivial⟩) rest

/-- An end device receives its result's block `k`; it takes its partial sum's block `k` back. -/
def takeE (k : Fin 8) (rest : PUnit → Rest F α) : Rest F α :=
  .op (.waitDma2 (dS 5 k) (rowsV oM k) (rowsV oM k) (View.wordExact_bits rfl) (View.wordExact_bits rfl)) rest
def doneE (k : Fin 8) (rest : PUnit → Rest F α) : Rest F α :=
  .op (.waitDma2 (dS 0 k) (slotV bM k) (rowsV pM k) ((View.wordExact_bits rfl).reshape _ _) (View.wordExact_bits rfl)) rest

/-- A middle device takes back the sum and the result's block `k` it sent. -/
def doneM (k : Fin 8) (rest : PUnit → Rest F α) : Rest F α :=
  .op (.waitDma2 (dS 2 k) (slotV mM k) (slotV sM k) ((View.wordExact_bits rfl).reshape _ _) ((View.wordExact_bits rfl).reshape _ _)) fun _ =>
  .op (.waitDma2 (dS 4 k) (rowsV oM k) (rowsV oM k) (View.wordExact_bits rfl) (View.wordExact_bits rfl)) rest

end Cert.KernelIdeal.Line

end
-- ==== Proof.Program.lean ====
/-
  The printed body, at a device of either kind, is a chain of the steps: the branches are decided by the device's place
  in its line.
-/
module

public import proofs.«01_k».proof.Proof.Steps

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α β : Type}

local notation "𝕄" => MT nD τ sig Unit (Elt F) ℕ UU ℕ

/-- A barrier unit to device `d`, and a wait for one. -/
def tellE (d : Dev nD) (rest : PUnit → Rest F α) : Rest F α := .op (.semSignal (Dev.tc d) barS 1) rest
def meetE (rest : PUnit → Rest F α) : Rest F α := .op (.semWait barS 1) rest

/-! ## Branches -/

theorem taken {p : Prop} [Decidable p] (h : p) {A : p → Rest F β} {B : ¬ p → Rest F β} {f : β → Rest F α}
    {S : Dev nD → (PUnit → Rest F α) → Rest F α} {d d' : Dev nD} {r : PUnit → Rest F α} {r' : Rest F α}
    (e : A h >>= f = S d r) (hd : d = d') (e' : r ⟨⟩ = r') : (dite p A B >>= f) = S d' (fun _ => r') := by
  subst hd; subst e'
  rw [dif_pos h]; exact e

theorem unconditional {p : Rest F α} {S : (PUnit → Rest F α) → Rest F α} {r : PUnit → Rest F α} {r' : Rest F α} (e : p = S r) (e' : r ⟨⟩ = r') : p = S (fun _ => r') := by
  subst e'; exact e

/-- A part has returned `a`, and the rest goes on with it. -/
theorem returned {p : Rest F β} {f : β → Rest F α} {a : β} {r' : Rest F α} (e : p = .ret a) (e' : f a = r') : (p >>= f) = r' := by
  subst e; exact e'

theorem closing {p r' : Rest F α} (e : (p >>= pure) = r') : p = r' := (Prog.bind_pure p).symm.trans e

theorem skipped {p : Prop} [Decidable p] (h : ¬ p) {A : p → Rest F β} {B : ¬ p → Rest F β} {f : β → Rest F α}
    {r' : Rest F α} (e : B h >>= f = r') : (dite p A B >>= f) = r' := by
  rw [dif_neg h]; exact e

/-! ## What the branches ask -/

/-- The bit that says a device is an end of its line, as the body computes it. -/
abbrev endBit (c : Dev nD) : BitVec 1 :=
  Scalar.ori (Scalar.cmpi .eq (Scalar.remsi (Scalar.divsi (Dev.word c) 1#32) 4#32) 0#32) (Scalar.cmpi .eq (Scalar.remsi (Scalar.divsi (Dev.word c) 1#32) 4#32) 3#32)
abbrev midBit (c : Dev nD) : BitVec 1 := Scalar.xori (endBit c) 1#1

/-- The bit `b`, widened and compared with zero, as the body asks it. -/
abbrev Asks (b : BitVec 1) : Prop := Scalar.cmpi .ne (Scalar.extui b : BitVec 32) 0#32 = 1#1

theorem asks_end : ∀ c : Dev nD, Asks (endBit c) ↔ ¬ Mid c := by decide +kernel
theorem asks_mid : ∀ c : Dev nD, Asks (midBit c) ↔ Mid c := by decide +kernel
theorem cond_end : ∀ c : Dev nD, k0_cond4 c = 1#1 ↔ ¬ Mid c := by decide +kernel
theorem cond_mid : ∀ c : Dev nD, k0_cond12 c = 1#1 ↔ Mid c := by decide +kernel

theorem dev_out : ∀ c : Dev nD, ¬ Mid c → k0_dev3 c = (near c).val := by decide +kernel
theorem dev_across : ∀ c : Dev nD, k0_dev11 c = (across c).val := by decide +kernel
theorem dev_back : ∀ c : Dev nD, Mid c → k0_dev14 c = (near c).val := by decide +kernel

/-- A middle device's two neighbours, the left one first. -/
def left (c : Dev nD) : Dev nD := if c.val % 4 = 1 then near c else across c
def right (c : Dev nD) : Dev nD := if c.val % 4 = 1 then across c else near c

theorem tells_mid : ∀ c : Dev nD, Mid c → k0_cond1 c = 1#1 ∧ k0_dev1 c = (left c).val ∧ k0_cond2 c = 1#1 ∧ k0_dev2 c = (right c).val := by decide +kernel
theorem tells_low : ∀ c : Dev nD, c.val % 4 = 0 → k0_cond1 c ≠ 1#1 ∧ k0_cond2 c = 1#1 ∧ k0_dev2 c = (near c).val := by decide +kernel
theorem tells_high : ∀ c : Dev nD, c.val % 4 = 3 → k0_cond1 c = 1#1 ∧ k0_dev1 c = (near c).val ∧ k0_cond2 c ≠ 1#1 := by decide +kernel

/-! ## The chains -/

/-- The middle device's run once it knows that its three neighbours are ready. -/
def midTail (c : Dev nD) : Rest F PUnit :=
  formE 0 (across c) fun _ => formE 1 (across c) fun _ => formE 2 (across c) fun _ => backE 0 (near c) fun _ => formE 3 (across c) fun _ =>
  backE 1 (near c) fun _ => formE 4 (across c) fun _ => backE 2 (near c) fun _ => formE 5 (across c) fun _ => backE 3 (near c) fun _ => formE 6 (across c) fun _ =>
  backE 4 (near c) fun _ => formE 7 (across c) fun _ => backE 5 (near c) fun _ => backE 6 (near c) fun _ => backE 7 (near c) fun _ =>
  doneM 0 fun _ => doneM 1 fun _ => doneM 2 fun _ => doneM 3 fun _ => doneM 4 fun _ => doneM 5 fun _ => doneM 6 fun _ => doneM 7 fun _ => .ret ⟨⟩

/-- An end device's run once its neighbour is ready. -/
def endTail (c : Dev nD) : Rest F PUnit :=
  sendE 0 (near c) fun _ => sendE 1 (near c) fun _ => sendE 2 (near c) fun _ => sendE 3 (near c) fun _ =>
  sendE 4 (near c) fun _ => sendE 5 (near c) fun _ => sendE 6 (near c) fun _ => sendE 7 (near c) fun _ =>
  takeE 0 fun _ => takeE 1 fun _ => takeE 2 fun _ => takeE 3 fun _ => takeE 4 fun _ => takeE 5 fun _ => takeE 6 fun _ => takeE 7 fun _ =>
  doneE 0 fun _ => doneE 1 fun _ => doneE 2 fun _ => doneE 3 fun _ => doneE 4 fun _ => doneE 5 fun _ => doneE 6 fun _ => doneE 7 fun _ => .ret ⟨⟩

/-- The body on the region's buffers. -/
def body : Rest F PUnit :=
  cc0_body pM (Memref.isWhole_whole _) oM (Memref.isWhole_whole _) bM (Memref.isWhole_whole _) sM (Memref.isWhole_whole _) mM (Memref.isWhole_whole _)
    cc0_scratch3 cc0_scratch4 cc0_scratch5 cc0_scratch6 cc0_scratch7 cc0_scratch8

theorem run_deviceId (c : Dev nD) (K : Dev nD → Rest F α) (Q : α → sProp 𝕄) : run c (.op .deviceId K) Q = run c (K c) Q :=
  wp_deviceId 𝒱₀ (c : Thread nD τ) none Set.univ

theorem body_mid (c : Dev nD) (h : Mid c) (Q : PUnit → sProp 𝕄) :
    run c (body (F := F)) Q = run c (tellE (left c) fun _ => tellE (right c) fun _ => meetE fun _ => meetE fun _ => midTail c) Q := by
  have hC := (cond_mid c).mpr h
  have nE : ¬ k0_cond4 c = 1#1 := fun e => (cond_end c).mp e h
  have aM := (asks_mid c).mpr h
  have naE : ¬ Asks (endBit c) := fun e => (asks_end c).mp e h
  have hA := dev_across c
  have hB := dev_back c h
  obtain ⟨t1, d1, t2, d2⟩ := tells_mid c h
  unfold body
  rw [cc0_body_eq_skeleton]
  unfold cc0_body_skel
  refine (run_deviceId c _ Q).trans (congrArg (fun p => run c p Q) ?_)
  refine taken t1 (S := tellE) rfl (Fin.ext d1) ?_
  refine taken t2 (S := tellE) rfl (Fin.ext d2) ?_
  refine unconditional (S := meetE) rfl ?_
  refine returned rfl ?_
  refine taken aM (S := fun _ => meetE) rfl (rfl : c = c) ?_
  refine skipped nE ?_
  refine skipped nE ?_
  refine skipped nE ?_
  refine skipped nE ?_
  refine skipped nE ?_
  refine skipped nE ?_
  refine skipped nE ?_
  refine skipped nE ?_
  refine returned rfl ?_
  refine taken hC (S := formE 0) rfl (Fin.ext hA) ?_
  refine taken hC (S := formE 1) rfl (Fin.ext hA) ?_
  refine taken hC (S := formE 2) rfl (Fin.ext hA) ?_
  refine taken hC (S := backE 0) rfl (Fin.ext hB) ?_
  refine taken hC (S := formE 3) rfl (Fin.ext hA) ?_
  refine returned rfl ?_
  refine taken hC (S := backE 1) rfl (Fin.ext hB) ?_
  refine taken hC (S := formE 4) rfl (Fin.ext hA) ?_
  refine taken hC (S := backE 2) rfl (Fin.ext hB) ?_
  refine taken hC (S := formE 5) rfl (Fin.ext hA) ?_
  refine taken hC (S := backE 3) rfl (Fin.ext hB) ?_
  refine taken hC (S := formE 6) rfl (Fin.ext hA) ?_
  refine returned rfl ?_
  refine taken hC (S := backE 4) rfl (Fin.ext hB) ?_
  refine taken hC (S := formE 7) rfl (Fin.ext hA) ?_
  refine taken hC (S := backE 5) rfl (Fin.ext hB) ?_
  refine taken hC (S := backE 6) rfl (Fin.ext hB) ?_
  refine taken hC (S := backE 7) rfl (Fin.ext hB) ?_
  refine skipped naE ?_
  refine skipped naE ?_
  refine returned rfl ?_
  refine skipped naE ?_
  refine skipped naE ?_
  refine skipped naE ?_
  refine skipped naE ?_
  refine skipped naE ?_
  refine skipped naE ?_
  refine skipped naE ?_
  refine taken aM (S := fun _ => doneM 0) rfl (rfl : c = c) ?_
  refine skipped naE ?_
  refine returned rfl ?_
  refine taken aM (S := fun _ => doneM 1) rfl (rfl : c = c) ?_
  refine skipped naE ?_
  refine taken aM (S := fun _ => doneM 2) rfl (rfl : c = c) ?_
  refine skipped naE ?_
  refine taken aM (S := fun _ => doneM 3) rfl (rfl : c = c) ?_
  refine skipped naE ?_
  refine taken aM (S := fun _ => doneM 4) rfl (rfl : c = c) ?_
  refine returned rfl ?_
  refine closing ?_
  refine skipped naE ?_
  refine taken aM (S := fun _ => doneM 5) rfl (rfl : c = c) ?_
  refine skipped naE ?_
  refine taken aM (S := fun _ => doneM 6) rfl (rfl : c = c) ?_
  refine skipped naE ?_
  refine taken aM (S := fun _ => doneM 7) rfl (rfl : c = c) ?_
  rfl

theorem body_end (c : Dev nD) (h : ¬ Mid c) (Q : PUnit → sProp 𝕄) :
    run c (body (F := F)) Q = run c (tellE (near c) fun _ => meetE fun _ => endTail c) Q := by
  have nC : ¬ k0_cond12 c = 1#1 := fun e => h ((cond_mid c).mp e)
  have hE := (cond_end c).mpr h
  have aE := (asks_end c).mpr h
  have naM : ¬ Asks (midBit c) := fun e => h ((asks_mid c).mp e)
  have hO := dev_out c h
  unfold body
  rw [cc0_body_eq_skeleton]
  unfold cc0_body_skel
  refine (run_deviceId c _ Q).trans (congrArg (fun p => run c p Q) ?_)
  rcases (by have := c.isLt; omega : c.val % 4 = 0 ∨ c.val % 4 = 3) with h0 | h0
  case' inl =>
    obtain ⟨t1, t2, d2⟩ := tells_low c h0
    refine skipped t1 ?_
    refine taken t2 (S := tellE) rfl (Fin.ext d2) ?_
  case' inr =>
    obtain ⟨t1, d1, t2⟩ := tells_high c h0
    refine taken t1 (S := tellE) rfl (Fin.ext d1) ?_
    refine skipped t2 ?_
  all_goals
    refine unconditional (S := meetE) rfl ?_
    refine returned rfl ?_
    refine skipped naM ?_
    refine taken hE (S := sendE 0) rfl (Fin.ext hO) ?_
    refine taken hE (S := sendE 1) rfl (Fin.ext hO) ?_
    refine taken hE (S := sendE 2) rfl (Fin.ext hO) ?_
    refine taken hE (S := sendE 3) rfl (Fin.ext hO) ?_
    refine taken hE (S := sendE 4) rfl (Fin.ext hO) ?_
    refine taken hE (S := sendE 5) rfl (Fin.ext hO) ?_
    refine taken hE (S := sendE 6) rfl (Fin.ext hO) ?_
    refine taken hE (S := sendE 7) rfl (Fin.ext hO) ?_
    refine returned rfl ?_
    refine skipped nC ?_
    refine skipped nC ?_
    refine skipped nC ?_
    refine skipped nC ?_
    refine skipped nC ?_
    refine returned rfl ?_
    refine skipped nC ?_
    refine skipped nC ?_
    refine skipped nC ?_
    refine skipped nC ?_
    refine skipped nC ?_
    refine skipped nC ?_
    refine returned rfl ?_
    refine skipped nC ?_
    refine skipped nC ?_
    refine skipped nC ?_
    refine skipped nC ?_
    refine skipped nC ?_
    refine taken aE (S := fun _ => takeE 0) rfl (rfl : c = c) ?_
    refine taken aE (S := fun _ => takeE 1) rfl (rfl : c = c) ?_
    refine returned rfl ?_
    refine taken aE (S := fun _ => takeE 2) rfl (rfl : c = c) ?_
    refine taken aE (S := fun _ => takeE 3) rfl (rfl : c = c) ?_
    refine taken aE (S := fun _ => takeE 4) rfl (rfl : c = c) ?_
    refine taken aE (S := fun _ => takeE 5) rfl (rfl : c = c) ?_
    refine taken aE (S := fun _ => takeE 6) rfl (rfl : c = c) ?_
    refine taken aE (S := fun _ => takeE 7) rfl (rfl : c = c) ?_
    refine taken aE (S := fun _ => doneE 0) rfl (rfl : c = c) ?_
    refine skipped naM ?_
    refine taken aE (S := fun _ => doneE 1) rfl (rfl : c = c) ?_
    refine returned rfl ?_
    refine skipped naM ?_
    refine taken aE (S := fun _ => doneE 2) rfl (rfl : c = c) ?_
    refine skipped naM ?_
    refine taken aE (S := fun _ => doneE 3) rfl (rfl : c = c) ?_
    refine skipped naM ?_
    refine taken aE (S := fun _ => doneE 4) rfl (rfl : c = c) ?_
    refine skipped naM ?_
    refine returned rfl ?_
    refine closing ?_
    refine taken aE (S := fun _ => doneE 5) rfl (rfl : c = c) ?_
    refine skipped naM ?_
    refine taken aE (S := fun _ => doneE 6) rfl (rfl : c = c) ?_
    refine skipped naM ?_
    refine taken aE (S := fun _ => doneE 7) rfl (rfl : c = c) ?_
    refine skipped naM ?_
    rfl

end Cert.KernelIdeal.Line

end
-- ==== Proof.Rules.lean ====
/-
  What one step of either kind of device needs, and what it leaves.
-/
module

public import proofs.«01_k».proof.Proof.Program

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig Unit (Elt F) ℕ UU ℕ

variable (P : Dev nD → Vec F S512x512 .f32)

/-! ## Which families a device uses -/

theorem used_mid {c : Dev nD} (h : Mid c) (j : ℕ) (h1 : 1 ≤ j) (h4 : j ≤ 4) : Used c j := by unfold Used; rw [if_pos h]; exact ⟨h1, h4⟩
theorem used_end {c : Dev nD} (h : ¬ Mid c) (j : ℕ) (hj : j = 0 ∨ j = 5) : Used c j := by unfold Used; rw [if_neg h]; exact hj
theorem mid_of_across {c : Dev nD} (h : Mid c) : Mid (across c) := (mid_across c).mpr h
theorem end_of_near {c : Dev nD} (h : Mid c) : ¬ Mid (near c) := fun e => (mid_near c).mp e h
theorem mid_of_near {c : Dev nD} (h : ¬ Mid c) : Mid (near c) := (mid_near c).mpr h

/-! ## The payloads by family -/

theorem pay0 (c : Dev nD) (k : Fin 8) : dmaPay P c (0 : Fin 6).val k = rowsPt pM c k fullShare (P c) := rfl
theorem pay1 (c : Dev nD) (k : Fin 8) : dmaPay P c (1 : Fin 6).val k = slotPt bM c k fullShare (recvP P c) := rfl
theorem pay2 (c : Dev nD) (k : Fin 8) : dmaPay P c (2 : Fin 6).val k = slotPt sM c k fullShare.left (formP P c) := rfl
theorem pay3 (c : Dev nD) (k : Fin 8) : dmaPay P c (3 : Fin 6).val k = slotPt mM c k fullShare (swapP P c) := rfl
theorem pay4 (c : Dev nD) (k : Fin 8) : dmaPay P c (4 : Fin 6).val k = rowsPt oM c k fullShare (outP P c) := rfl
theorem pay5 (c : Dev nD) (k : Fin 8) : dmaPay P c (5 : Fin 6).val k = rowsPt oM c k fullShare (outP P c) := rfl

/-! ## What is owed, and which waits that allows -/

theorem lv1 (c : Dev nD) (k : Fin 8) : lv (cell c 1 k) () = 2 := by rw [lv_cell]; rfl
theorem lv3 (c : Dev nD) (k : Fin 8) : lv (cell c 3 k) () = 3 + k.val := by rw [lv_cell]; rfl
theorem lv5 (c : Dev nD) (k : Fin 8) : lv (cell c 5 k) () = 20 := by rw [lv_cell]; rfl

/-- A middle device's debts: the second hop from block `a` on, the third from block `b` on. -/
def dueM (c : Dev nD) (a b : ℕ) : CellTallies nD τ sig Unit := due (fun k => cell (across c) 3 k) a + due (fun k => cell (near c) 5 k) b

theorem dueM_pos {c : Dev nD} {a b : ℕ} {g : GSem nD τ sig} {u : Unit} (h : 0 < dueM c a b g u) :
    (∃ k : Fin 8, a ≤ k.val ∧ g = cell (across c) 3 k) ∨ ∃ k : Fin 8, b ≤ k.val ∧ g = cell (near c) 5 k := by
  have h : 0 < due (fun k => cell (across c) 3 k) a g u + due (fun k => cell (near c) 5 k) b g u := h
  rcases Nat.eq_zero_or_pos (due (fun k => cell (across c) 3 k) a g u) with h0 | h0
  · exact .inr (due_pos _ _ _ _ (by rw [h0, Nat.zero_add] at h; exact h))
  · exact .inl (due_pos _ _ _ _ h0)

/-- A middle device may wait for a block from the end whatever it owes. -/
theorem may_recv (c : Dev nD) (k : Fin 8) (a b : ℕ) : (levAts L lv : sProp 𝕄) ⊢ MayWait (c : Thread nD τ) (.dma (dS 1 k)) () (dueM c a b) := by
  refine mayWait_of c _ _ fun g u h => ?_
  rw [lv1]
  rcases dueM_pos h with ⟨j, -, rfl⟩ | ⟨j, -, rfl⟩
  · exact ⟨rfl, by rw [lv3]; omega⟩
  · exact ⟨rfl, by rw [lv5]; omega⟩

/-- It may wait for the other middle device's sum `k` once its own is sent. -/
theorem may_swap (c : Dev nD) (k : Fin 8) (a b : ℕ) (hk : k.val < a) : (levAts L lv : sProp 𝕄) ⊢ MayWait (c : Thread nD τ) (.dma (dS 3 k)) () (dueM c a b) := by
  refine mayWait_of c _ _ fun g u h => ?_
  rw [lv3]
  have := k.isLt
  rcases dueM_pos h with ⟨j, hj, rfl⟩ | ⟨j, -, rfl⟩
  · exact ⟨rfl, by rw [lv3]; omega⟩
  · exact ⟨rfl, by rw [lv5]; omega⟩

theorem may_free (c : Dev nD) (sm : SemLoc sig) : (levAts L lv : sProp 𝕄) ⊢ MayWait (c : Thread nD τ) sm () 0 := by
  rw [MayWait_zero]
  iintro -
  iempintro

/-! ## The middle device -/

/-- What the stores leave: the sum formed in slot `k`, the result in row block `k`. -/
theorem stored_form (c : Dev nD) (k : Fin 8) (f : Buf (Elt F) ((sM.access (rectS k)).loc (c : Thread nD τ))) :
    ((sM.access (rectS k)).loc (c : Thread nD τ) ↦[(slotV sM k).view.set]{fullShare} ((sM.access (rectS k)).write (Elt F) f
        (k0_pay1 ((pM.access (rectR k)).read (Elt F) (P c)) ((bM.access (rectS k)).read (Elt F) (recvP P c))) Finset.univ) : sProp 𝕄)
      ⊢ slotPt sM c k fullShare (formP P c) := by
  have h := store_form (P := P) c k f
  rw [← slot_set sM k] at h
  exact Entails.of_eq (pointsTo_congr (q := fullShare) h)

theorem stored_out {c : Dev nD} (h : Mid c) (k : Fin 8) (f : Buf (Elt F) ((oM.access (rectR k)).loc (c : Thread nD τ))) :
    ((oM.access (rectR k)).loc (c : Thread nD τ) ↦[(rowsV oM k).view.set]{fullShare} ((oM.access (rectR k)).write (Elt F) f
        (k0_pay9 ((sM.access (rectS k)).read (Elt F) (formP P c)) ((mM.access (rectS k)).read (Elt F) (swapP P c))) Finset.univ) : sProp 𝕄)
      ⊢ rowsPt oM c k fullShare (outP P c) := by
  have h := store_out (P := P) h k f
  rw [← rows_set oM k] at h
  exact Entails.of_eq (pointsTo_congr (q := fullShare) h)
/-- For the first sum of block `k`: the block from the end to come, its own rows, the slot the sum is formed in, the slot
    it is sent to, and the right to send it. -/
def formNeed (c : Dev nD) (k : Fin 8) : sProp 𝕄 :=
  iprop(atPos ER (cell c 1 k) 0 ∅ 0 ∗ cred (tallyAt (cell c 1 k) () N) ∗ rowsPt pM c k fullShare (P c) ∗ (∃ f, slotPt (F := F) sM c k fullShare f)
    ∗ offerSwap (F := F) (across c) k ∗ dutyTok ER (cell c 2 k) 0 false ∗ reached ER (cell c 2 k) 0 ∗ dutyTok ER (cell (across c) 3 k) 0 false)
/-- After it: the block received, its rows, half of the sum's slot, and the sending to wait for. -/
def formHave (c : Dev nD) (k : Fin 8) : sProp 𝕄 :=
  iprop(atPos ER (cell c 1 k) (0 + 1) ∅ 0 ∗ rowsPt pM c k fullShare (P c) ∗ slotPt bM c k fullShare (recvP P c) ∗ cred (tallyAt (cell c 2 k) () N))

theorem form_rule (κ : GSem nD τ sig → ℕ) (c : Dev nD) (h : Mid c) (k : Fin 8) (a b : ℕ) (ha : a = k.val) (rest : PUnit → Rest F α) (Q : α → sProp 𝕄) :
    iprop(ctx P κ ∗ owing (F := F) c (dueM c a b) ∗ formNeed P c k)
      ⊢ iprop(((owing (F := F) c (dueM c (a + 1) b) ∗ formHave P c k ∗ slotPt sM c k fullShare.right (formP P c)) -∗ run c (rest ⟨⟩) Q)
        -∗ run c (formE k (across c) rest) Q) := by
  subst ha
  have send := fun fd => send_cell (κ := κ) (c := c) (e := across c) P (j := 2) (j' := 3) k (used_mid h _ (by decide) (by decide))
    (used_mid (mid_of_across h) _ (by decide) (by decide)) (src := slotV sM k) (dst := slotV mM k) (h1 := (View.wordExact_bits rfl).reshape _ _)
    (h2 := (View.wordExact_bits rfl).reshape _ _) (hsc := rfl) (h3 := ⟨⟨rfl, Or.inl rfl⟩, trivial⟩) (credit_slot k mM) fullShare.left (formP P c) fd
    (Entails.of_eq (pay2 P c k).symm) (Entails.of_eq ((pointsTo_congr (q := fullShare) (land_swap (P := P) c k fd)).trans (pay3 P (across c) k).symm))
    (dueM c k.val b) (dueM c (k.val + 1) b) (by unfold dueM; rw [due_succ _ k]; exact add_right_comm _ _ _) rest Q
  unfold formNeed formHave formE offerSwap
  iintro ⟨#Hctx, HO, Hat, Hc, Hp, ⟨%f, Hs⟩, ⟨⟨%fd, Hd⟩, Hrd⟩, Ht, Hr, Ht'⟩ Hk
  iapply (wait_cell P κ c 1 k (used_mid h _ (by decide) (by decide)) (credit_slot k bM) (dueM c k.val b) (may_recv c k k.val b)) $$ [HO Hat Hc]
  · isplitr; · iexact Hctx
    isplitl [Hc]; · iexact Hc
    isplitl [HO]; · iexact HO
    iexact Hat
  iintro ⟨HO, Hat, Hpay⟩
  ihave Hb := (Entails.of_eq (pay1 P c k)) $$ Hpay
  iapply (wp_load_rect 𝒱₀ (c : Thread nD τ) none Set.univ (m := pM) (r := rectR k) (hS := (rows_set pM k).symm.subset)) $$ Hp
  iintro Hp
  iapply (wp_load_rect 𝒱₀ (c : Thread nD τ) none Set.univ (m := bM) (r := rectS k) (hS := (slot_set bM k).symm.subset)) $$ Hb
  iintro Hb
  iapply (wp_load_rect 𝒱₀ (c : Thread nD τ) none Set.univ (m := sM) (r := rectS k) (hS := (slot_set sM k).symm.subset)) $$ Hs
  iintro Hs
  iapply (wp_store 𝒱₀ (c : Thread nD τ) none Set.univ (m := sM) (r := rectS k) (Mk := Finset.univ) (hS := (slot_set sM k).symm.subset)) $$ Hs
  iintro Hs
  ihave Hs := (stored_form P c k f) $$ Hs
  ihave Hs := (pointsTo_share (PosShare.mem_left_op_right fullShare)).1 $$ Hs
  icases Hs with ⟨Hl, Hr'⟩
  iapply (send fd) $$ [Hl Hd HO Ht Hr Ht' Hrd]
  · isplitr; · iexact Hctx
    isplitl [Hl]; · iexact Hl
    isplitl [Hd]; · iexact Hd
    isplitl [HO]; · iexact HO
    isplitl [Ht]; · iexact Ht
    isplitl [Hr]; · iexact Hr
    isplitl [Ht']; · iexact Ht'
    iexact Hrd
  iintro ⟨Hc, HO⟩
  iapply Hk
  isplitl [HO]; · iexact HO
  isplitl [Hat Hp Hb Hc]
  · isplitl [Hat]; · iexact Hat
    isplitl [Hp]; · iexact Hp
    isplitl [Hb]; · iexact Hb
    iexact Hc
  iexact Hr'

/-- For the result's block `k`: the other sum to come, the result's rows to store into, the end's rows to send them to. -/
def backNeed (c : Dev nD) (k : Fin 8) : sProp 𝕄 :=
  iprop(atPos ER (cell c 3 k) 0 ∅ 0 ∗ cred (tallyAt (cell c 3 k) () N) ∗ (∃ f, rowsPt (F := F) oM c k fullShare f)
    ∗ offerOut (F := F) (near c) k ∗ dutyTok ER (cell c 4 k) 0 false ∗ reached ER (cell c 4 k) 0 ∗ dutyTok ER (cell (near c) 5 k) 0 false)
def backHave (c : Dev nD) (k : Fin 8) : sProp 𝕄 :=
  iprop(atPos ER (cell c 3 k) (0 + 1) ∅ 0 ∗ slotPt mM c k fullShare (swapP P c) ∗ cred (tallyAt (cell c 4 k) () N))

theorem back_rule (κ : GSem nD τ sig → ℕ) (c : Dev nD) (h : Mid c) (k : Fin 8) (a b : ℕ) (ha : k.val < a) (hb : b = k.val) (rest : PUnit → Rest F α) (Q : α → sProp 𝕄) :
    iprop(ctx P κ ∗ owing (F := F) c (dueM c a b) ∗ backNeed (F := F) c k ∗ slotPt sM c k fullShare.right (formP P c))
      ⊢ iprop(((owing (F := F) c (dueM c a (b + 1)) ∗ backHave P c k ∗ slotPt sM c k fullShare.right (formP P c)) -∗ run c (rest ⟨⟩) Q)
        -∗ run c (backE k (near c) rest) Q) := by
  subst hb
  have send := fun fd => send_cell (κ := κ) (c := c) (e := near c) P (j := 4) (j' := 5) k (used_mid h _ (by decide) (by decide))
    (used_end (end_of_near h) _ (.inr rfl)) (src := rowsV oM k) (dst := rowsV oM k) (h1 := View.wordExact_bits rfl)
    (h2 := View.wordExact_bits rfl) (hsc := rfl) (h3 := ⟨⟨rfl, Or.inl rfl⟩, trivial⟩) (credit_rows k oM) fullShare (outP P c) fd
    (Entails.of_eq (pay4 P c k).symm) (Entails.of_eq ((pointsTo_congr (q := fullShare) (land_out (P := P) h k fd)).trans (pay5 P (near c) k).symm))
    (dueM c a k.val) (dueM c a (k.val + 1)) (by unfold dueM; rw [due_succ _ k, add_assoc]) rest Q
  unfold backNeed backHave backE offerOut
  iintro ⟨#Hctx, HO, ⟨Hat, Hc, ⟨%f, Ho⟩, ⟨⟨%fd, Hd⟩, Hrd⟩, Ht, Hr, Ht'⟩, Hs⟩ Hk
  iapply (wait_cell P κ c 3 k (used_mid h _ (by decide) (by decide)) (credit_slot k mM) (dueM c a k.val) (may_swap c k a k.val ha)) $$ [HO Hat Hc]
  · isplitr; · iexact Hctx
    isplitl [Hc]; · iexact Hc
    isplitl [HO]; · iexact HO
    iexact Hat
  iintro ⟨HO, Hat, Hpay⟩
  ihave Hm := (Entails.of_eq (pay3 P c k)) $$ Hpay
  iapply (wp_load_rect 𝒱₀ (c : Thread nD τ) none Set.univ (m := sM) (r := rectS k) (hS := (slot_set sM k).symm.subset)) $$ Hs
  iintro Hs
  iapply (wp_load_rect 𝒱₀ (c : Thread nD τ) none Set.univ (m := mM) (r := rectS k) (hS := (slot_set mM k).symm.subset)) $$ Hm
  iintro Hm
  iapply (wp_load_rect 𝒱₀ (c : Thread nD τ) none Set.univ (m := oM) (r := rectR k) (hS := (rows_set oM k).symm.subset)) $$ Ho
  iintro Ho
  iapply (wp_store 𝒱₀ (c : Thread nD τ) none Set.univ (m := oM) (r := rectR k) (Mk := Finset.univ) (hS := (rows_set oM k).symm.subset)) $$ Ho
  iintro Ho
  ihave Ho := (stored_out P h k f) $$ Ho
  iapply (send fd) $$ [Ho Hd HO Ht Hr Ht' Hrd]
  · isplitr; · iexact Hctx
    isplitl [Ho]; · iexact Ho
    isplitl [Hd]; · iexact Hd
    isplitl [HO]; · iexact HO
    isplitl [Ht]; · iexact Ht
    isplitl [Hr]; · iexact Hr
    isplitl [Ht']; · iexact Ht'
    iexact Hrd
  iintro ⟨Hc, HO⟩
  iapply Hk
  isplitl [HO]; · iexact HO
  isplitl [Hat Hm Hc]
  · isplitl [Hat]; · iexact Hat
    isplitl [Hm]; · iexact Hm
    iexact Hc
  iexact Hs

/-- The two counters of what block `k` sent, not yet waited for. -/
def sentNeed (c : Dev nD) (k : Fin 8) : sProp 𝕄 :=
  iprop(atPos ER (cell c 2 k) 0 ∅ 0 ∗ atPos ER (cell c 4 k) 0 ∅ 0 ∗ cred (tallyAt (cell c 2 k) () N) ∗ cred (tallyAt (cell c 4 k) () N))
def sentHave (c : Dev nD) (k : Fin 8) : sProp 𝕄 :=
  iprop(atPos ER (cell c 2 k) (0 + 1) ∅ 0 ∗ atPos ER (cell c 4 k) (0 + 1) ∅ 0 ∗ slotPt sM c k fullShare.left (formP P c) ∗ rowsPt oM c k fullShare (outP P c))

theorem doneM_rule (κ : GSem nD τ sig → ℕ) (c : Dev nD) (h : Mid c) (k : Fin 8) (rest : PUnit → Rest F α) (Q : α → sProp 𝕄) :
    iprop(ctx P κ ∗ owing (F := F) c 0 ∗ sentNeed (F := F) c k)
      ⊢ iprop(((owing (F := F) c 0 ∗ sentHave P c k) -∗ run c (rest ⟨⟩) Q) -∗ run c (doneM k rest) Q) := by
  unfold sentNeed sentHave doneM
  iintro ⟨#Hctx, HO, Hat, Hat', Hc, Hc'⟩ Hk
  iapply (wait_cell P κ c 2 k (used_mid h _ (by decide) (by decide)) (credit_slot k sM) 0 (may_free c _)) $$ [HO Hat Hc]
  · isplitr; · iexact Hctx
    isplitl [Hc]; · iexact Hc
    isplitl [HO]; · iexact HO
    iexact Hat
  iintro ⟨HO, Hat, Hpay⟩
  ihave Hs := (Entails.of_eq (pay2 P c k)) $$ Hpay
  iapply (wait_cell P κ c 4 k (used_mid h _ (by decide) (by decide)) (credit_rows k oM) 0 (may_free c _)) $$ [HO Hat' Hc']
  · isplitr; · iexact Hctx
    isplitl [Hc']; · iexact Hc'
    isplitl [HO]; · iexact HO
    iexact Hat'
  iintro ⟨HO, Hat', Hpay⟩
  ihave Ho := (Entails.of_eq (pay4 P c k)) $$ Hpay
  iapply Hk
  isplitl [HO]; · iexact HO
  isplitl [Hat]; · iexact Hat
  isplitl [Hat']; · iexact Hat'
  isplitl [Hs]; · iexact Hs
  iexact Ho

/-! ## The end device -/

/-- For sending row block `k`: the rows, the slot they go to, and the right to send. -/
def sendNeed (c : Dev nD) (k : Fin 8) : sProp 𝕄 :=
  iprop(rowsPt pM c k fullShare (P c) ∗ offerRecv (F := F) (near c) k ∗ dutyTok ER (cell c 0 k) 0 false ∗ reached ER (cell c 0 k) 0 ∗ dutyTok ER (cell (near c) 1 k) 0 false)

/-- An end device's debts: the first hop from block `a` on. -/
abbrev dueE (c : Dev nD) (a : ℕ) : CellTallies nD τ sig Unit := due (fun k => cell (near c) 1 k) a

theorem sendE_rule (κ : GSem nD τ sig → ℕ) (c : Dev nD) (h : ¬ Mid c) (k : Fin 8) (a : ℕ) (ha : a = k.val) (rest : PUnit → Rest F α) (Q : α → sProp 𝕄) :
    iprop(ctx P κ ∗ owing (F := F) c (dueE c a) ∗ sendNeed P c k)
      ⊢ iprop(((owing (F := F) c (dueE c (a + 1)) ∗ cred (tallyAt (cell c 0 k) () N)) -∗ run c (rest ⟨⟩) Q) -∗ run c (sendE k (near c) rest) Q) := by
  subst ha
  have send := fun fd => send_cell (κ := κ) (c := c) (e := near c) P (j := 0) (j' := 1) k (used_end h _ (.inl rfl))
    (used_mid (mid_of_near h) _ (by decide) (by decide)) (src := rowsV pM k) (dst := slotV bM k) (h1 := View.wordExact_bits rfl)
    (h2 := (View.wordExact_bits rfl).reshape _ _) (hsc := rfl) (h3 := ⟨⟨rfl, Or.inl rfl⟩, trivial⟩) (credit_slot k bM) fullShare (P c) fd
    (Entails.of_eq (pay0 P c k).symm) (Entails.of_eq ((pointsTo_congr (q := fullShare) (land_recv (P := P) c k fd)).trans (pay1 P (near c) k).symm))
    (dueE c k.val) (dueE c (k.val + 1)) (due_succ _ k) rest Q
  unfold sendNeed sendE offerRecv
  iintro ⟨#Hctx, HO, Hp, ⟨⟨%fd, Hd⟩, Hrd⟩, Ht, Hr, Ht'⟩ Hk
  iapply (send fd) $$ [Hp Hd HO Ht Hr Ht' Hrd]
  · isplitr; · iexact Hctx
    isplitl [Hp]; · iexact Hp
    isplitl [Hd]; · iexact Hd
    isplitl [HO]; · iexact HO
    isplitl [Ht]; · iexact Ht
    isplitl [Hr]; · iexact Hr
    isplitl [Ht']; · iexact Ht'
    iexact Hrd
  iintro ⟨Hc, HO⟩
  iapply Hk
  isplitl [HO]; · iexact HO
  iexact Hc

def takeNeed (c : Dev nD) (k : Fin 8) : sProp 𝕄 := iprop(atPos ER (cell c 5 k) 0 ∅ 0 ∗ cred (tallyAt (cell c 5 k) () N))
def takeHave (c : Dev nD) (k : Fin 8) : sProp 𝕄 := iprop(atPos ER (cell c 5 k) (0 + 1) ∅ 0 ∗ rowsPt oM c k fullShare (outP P c))
def doneNeed (c : Dev nD) (k : Fin 8) : sProp 𝕄 := iprop(atPos ER (cell c 0 k) 0 ∅ 0 ∗ cred (tallyAt (cell c 0 k) () N))
def doneHave (c : Dev nD) (k : Fin 8) : sProp 𝕄 := iprop(atPos ER (cell c 0 k) (0 + 1) ∅ 0 ∗ rowsPt pM c k fullShare (P c))

theorem takeE_rule (κ : GSem nD τ sig → ℕ) (c : Dev nD) (h : ¬ Mid c) (k : Fin 8) (rest : PUnit → Rest F α) (Q : α → sProp 𝕄) :
    iprop(ctx P κ ∗ owing (F := F) c 0 ∗ takeNeed (F := F) c k)
      ⊢ iprop(((owing (F := F) c 0 ∗ takeHave P c k) -∗ run c (rest ⟨⟩) Q) -∗ run c (takeE k rest) Q) := by
  unfold takeNeed takeHave takeE
  iintro ⟨#Hctx, HO, Hat, Hc⟩ Hk
  iapply (wait_cell P κ c 5 k (used_end h _ (.inr rfl)) (credit_rows k oM) 0 (may_free c _)) $$ [HO Hat Hc]
  · isplitr; · iexact Hctx
    isplitl [Hc]; · iexact Hc
    isplitl [HO]; · iexact HO
    iexact Hat
  iintro ⟨HO, Hat, Hpay⟩
  ihave Ho := (Entails.of_eq (pay5 P c k)) $$ Hpay
  iapply Hk
  isplitl [HO]; · iexact HO
  isplitl [Hat]; · iexact Hat
  iexact Ho

theorem doneE_rule (κ : GSem nD τ sig → ℕ) (c : Dev nD) (h : ¬ Mid c) (k : Fin 8) (rest : PUnit → Rest F α) (Q : α → sProp 𝕄) :
    iprop(ctx P κ ∗ owing (F := F) c 0 ∗ doneNeed (F := F) c k)
      ⊢ iprop(((owing (F := F) c 0 ∗ doneHave P c k) -∗ run c (rest ⟨⟩) Q) -∗ run c (doneE k rest) Q) := by
  unfold doneNeed doneHave doneE
  iintro ⟨#Hctx, HO, Hat, Hc⟩ Hk
  iapply (wait_cell P κ c 0 k (used_end h _ (.inl rfl)) (credit_rows k pM) 0 (may_free c _)) $$ [HO Hat Hc]
  · isplitr; · iexact Hctx
    isplitl [Hc]; · iexact Hc
    isplitl [HO]; · iexact HO
    iexact Hat
  iintro ⟨HO, Hat, Hpay⟩
  ihave Hp := (Entails.of_eq (pay0 P c k)) $$ Hpay
  iapply Hk
  isplitl [HO]; · iexact HO
  isplitl [Hat]; · iexact Hat
  iexact Hp

end Cert.KernelIdeal.Line

end
-- ==== Proof.Barrier.lean ====
/-
  The barrier at either kind of device, and eight pieces of which some are done.
-/
module

public import proofs.«01_k».proof.Proof.Rules

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

/-! ## Eight pieces of which the first few are done -/

/-- The pieces before `n` as `A` has them, the others as `B` has them. -/
def upTo (A B : Fin 8 → sProp 𝕄) (n : ℕ) : sProp 𝕄 := bigSep Finset.univ fun k => if k.val < n then A k else B k

theorem upTo_zero (A B : Fin 8 → sProp 𝕄) : upTo A B 0 = bigSep Finset.univ B := bigSep_congr fun k _ => if_neg (Nat.not_lt_zero _)
theorem upTo_all (A B : Fin 8 → sProp 𝕄) : upTo A B 8 = bigSep Finset.univ A := bigSep_congr fun k _ => if_pos k.isLt

/-- The next piece taken out, and put back as `A` has it. -/
theorem upTo_next (A B : Fin 8 → sProp 𝕄) (k : Fin 8) : upTo A B k.val ⊢ iprop(B k ∗ (A k -∗ upTo A B (k.val + 1))) := by
  unfold upTo
  rw [bigSep_univ_at _ k, bigSep_univ_at (fun j : Fin 8 => if j.val < k.val + 1 then A j else B j) k, if_neg (Nat.lt_irrefl _), if_pos (Nat.lt_succ_self _),
    bigSep_congr (s := Finset.univ.erase k) (Φ := fun j : Fin 8 => if j.val < k.val then A j else B j) (Ψ := fun j : Fin 8 => if j.val < k.val + 1 then A j else B j)
      fun j hj => by
        have : j.val ≠ k.val := fun e => Finset.ne_of_mem_erase hj (Fin.ext e)
        by_cases h : j.val < k.val
        · rw [if_pos h, if_pos (by omega)]
        · rw [if_neg h, if_neg (by omega)]]
  iintro ⟨HB, Hr⟩
  isplitl [HB]; · iexact HB
  iintro HA
  isplitl [HA]; · iexact HA
  iexact Hr

/-- A done piece looked at. -/
theorem upTo_done (A B : Fin 8 → sProp 𝕄) (k : Fin 8) (n : ℕ) (h : k.val < n) : upTo A B n ⊢ iprop(A k ∗ (A k -∗ upTo A B n)) := by
  unfold upTo
  rw [bigSep_univ_at _ k, if_pos h]
  iintro ⟨HA, Hr⟩
  isplitl [HA]; · iexact HA
  iintro HA
  isplitl [HA]; · iexact HA
  iexact Hr

variable [FloatOps F] {α : Type} (P : Dev nD → Vec F S512x512 .f32)

/-! ## The barrier -/

theorem tell_rule (κ : GSem nD τ sig → ℕ) (c e : Dev nD) (d : Bool) (hd : d ∈ (Rd P).duties (barCell e) 0) (O₀ O : CellTallies nD τ sig Unit)
    (hO : O₀ = O + tallyAt (barCell e) () 1) (rest : PUnit → Rest F α) (Q : α → sProp 𝕄) :
    iprop(ctx P κ ∗ owing (F := F) c O₀ ∗ dutyTok ER (barCell e) 0 d ∗ barPay e d)
      ⊢ iprop((owing (F := F) c O -∗ run c (rest ⟨⟩) Q) -∗ run c (tellE e rest) Q) := by
  unfold owing tellE
  iintro ⟨#Hctx, ⟨%W, HO⟩, Ht, Hp⟩ Hk
  iapply (Rounds.wp_signal 𝒱₀ ER (Rd P) (c : Thread nD τ) none (dst := (e : Thread nD τ)) (sem := barS) (r := 0) (d := d) (κ := κ (barCell e))
      hd (amount_bar P e 0 d) () O hO (W := W)) $$ [HO Ht Hp]
  · isplitr; · iapply (ctx_bar P κ e); iexact Hctx
    isplitl [HO]; · iexact HO
    isplitl [Ht]; · iexact Ht
    isplitl [Hp]; · rw [payload_bar]; iexact Hp
    iapply (ctx_reached P κ e); iexact Hctx
  iintro HO
  iapply Hk
  iexists W; iexact HO

theorem may_bar (c : Dev nD) (O : CellTallies nD τ sig Unit) (h : ∀ g u, 0 < O g u → ∃ e j k, g = cell e j k ∧ (j = 1 ∨ j = 3 ∨ j = 5)) :
    (levAts L lv : sProp 𝕄) ⊢ MayWait (c : Thread nD τ) (.reg barS) () O := by
  refine mayWait_of c _ _ fun g u hg => ?_
  obtain ⟨e, j, k, rfl, hj⟩ := h g u hg
  refine ⟨rfl, ?_⟩
  show 1 < _
  rcases hj with rfl | rfl | rfl
  · rw [lv1]; decide
  · rw [lv3]; omega
  · rw [lv5]; decide
theorem may_bar_mid (c : Dev nD) : (levAts L lv : sProp 𝕄) ⊢ MayWait (c : Thread nD τ) (.reg barS) () (dueM c 0 0) :=
  may_bar c _ fun g u h => by
    rcases dueM_pos h with ⟨k, -, rfl⟩ | ⟨k, -, rfl⟩
    · exact ⟨_, 3, k, rfl, .inr (.inl rfl)⟩
    · exact ⟨_, 5, k, rfl, .inr (.inr rfl)⟩
theorem may_bar_end (c : Dev nD) : (levAts L lv : sProp 𝕄) ⊢ MayWait (c : Thread nD τ) (.reg barS) () (dueE c 0) :=
  may_bar c _ fun g u h => by
    obtain ⟨k, -, rfl⟩ := due_pos _ _ _ _ h
    exact ⟨_, 1, k, rfl, .inl rfl⟩

theorem meet_end (κ : GSem nD τ sig → ℕ) (c : Dev nD) (h : ¬ Mid c) (rest : PUnit → Rest F α) (Q : α → sProp 𝕄) :
    iprop(ctx P κ ∗ cred (tallyAt (barCell c) () 1) ∗ owing (F := F) c (dueE c 0) ∗ atPos ER (barCell c) 0 ∅ 0)
      ⊢ iprop(((owing (F := F) c (dueE c 0) ∗ atPos ER (barCell c) (0 + 1) ∅ 0 ∗ barPay (F := F) c false) -∗ run c (rest ⟨⟩) Q) -∗ run c (meetE rest) Q) := by
  unfold owing meetE
  iintro ⟨#Hctx, Hc, ⟨%W, HO⟩, Hat⟩ Hk
  iapply (Rounds.wp_wait_rest_token 𝒱₀ ER (Rd P) (c : Thread nD τ) none (κ := κ (barCell c))
      (wpE_semWait_eq 𝒱₀ (c : Thread nD τ) none Set.univ) (Set.mem_univ _) () (O := dueE c 0) (W := W) (R := 0) (m := 0) (T := ∅)
      ((Nat.zero_add _).trans (expect_bar_end P c h).symm)) $$ [Hc HO Hat]
  · isplitr; · iapply (ctx_bar P κ c); iexact Hctx
    isplitl [Hc]; · iexact Hc
    isplitl [HO]; · iexact HO
    isplitr; · iapply (ctx_may P κ c _ _ (may_bar_end c)); iexact Hctx
    iexact Hat
  rw [Finset.sdiff_empty, duties_bar_end P c h, bigSep_singleton, payload_bar]
  iintro ⟨HO, Hat, -, Hp⟩
  iapply Hk
  isplitl [HO]; · iexists _; iexact HO
  isplitl [Hat]; · iexact Hat
  iexact Hp

/-- A middle device's two waits: whichever unit comes first, after both it has both neighbours' payloads. -/
theorem meet_mid (κ : GSem nD τ sig → ℕ) (c : Dev nD) (h : Mid c) (rest : PUnit → Rest F α) (Q : α → sProp 𝕄) :
    iprop(ctx P κ ∗ cred (tallyAt (barCell c) () 2) ∗ owing (F := F) c (dueM c 0 0) ∗ atPos ER (barCell c) 0 ∅ 0)
      ⊢ iprop(((owing (F := F) c (dueM c 0 0) ∗ atPos ER (barCell c) (0 + 1) ∅ 0 ∗ barPay (F := F) c false ∗ barPay (F := F) c true) -∗ run c (rest ⟨⟩) Q)
        -∗ run c (meetE fun _ => meetE rest) Q) := by
  unfold owing meetE
  rw [show (tallyAt (barCell c) () 2 : CellTallies nD τ sig Unit) = tallyAt (barCell c) () 1 + tallyAt (barCell c) () 1 from (tallyAt_add _ _ 1 1).symm]
  iintro ⟨#Hctx, Hc, ⟨%W, HO⟩, Hat⟩ Hk
  ihave Hc := (cred_add (tallyAt (barCell c) () 1) (tallyAt (barCell c) () 1)).1 $$ Hc
  icases Hc with ⟨Hc1, Hc2⟩
  iapply (Rounds.wp_wait 𝒱₀ ER (Rd P) (c : Thread nD τ) none (κ := κ (barCell c))
      (wpE_semWait_eq 𝒱₀ (c : Thread nD τ) none Set.univ) (Set.mem_univ _) (cr := Finsupp.single () 1) (O := dueM c 0 0) (W := W) {(.reg barS, ())} (R := 0) (m := 0) (T := ∅)
      (by rw [Util.total_single]) (image_single_subset _ _ _)) $$ [Hc1 HO Hat]
  · isplitr; · iapply (ctx_bar P κ c); iexact Hctx
    isplitl [Hc1]; · iexact Hc1
    isplitl [HO]; · iexact HO
    isplitr; · iapply (ctx_may P κ c _ _ (may_bar_mid c)); iexact Hctx
    iexact Hat
  iintro %S ⟨%hS, HO, Hat, Hp1⟩
  iapply (Rounds.wp_wait_rest_token 𝒱₀ ER (Rd P) (c : Thread nD τ) none (κ := κ (barCell c))
      (wpE_semWait_eq 𝒱₀ (c : Thread nD τ) none Set.univ) (Set.mem_univ _) () (O := dueM c 0 0) (R := 0) (m := 0 + 1) (T := S)
      (show 0 + 1 + 1 = _ from (expect_bar_mid P c h).symm)) $$ [Hc2 HO Hat]
  · isplitr; · iapply (ctx_bar P κ c); iexact Hctx
    isplitl [Hc2]; · iexact Hc2
    isplitl [HO]; · iexact HO
    isplitr; · iapply (ctx_may P κ c _ _ (may_bar_mid c)); iexact Hctx
    iexact Hat
  iintro ⟨HO, Hat, -, Hp2⟩
  iapply Hk
  isplitl [HO]; · iexists _; iexact HO
  isplitl [Hat]; · iexact Hat
  have hsub := hS.2.1
  have hall : iprop(bigSep (S \ ∅) (fun d => (Rd P).payload (barCell c) 0 d) ∗ bigSep ((Rd P).duties (barCell c) 0 \ S) (fun d => (Rd P).payload (barCell c) 0 d))
      ⊢ iprop(barPay (F := F) c false ∗ barPay (F := F) c true) := by
    rw [Finset.sdiff_empty]
    refine (Entails.of_eq (bigSep_sdiff_split hsub).symm).trans ?_
    rw [duties_bar_mid P c h, bigSep_insert (by decide), bigSep_singleton, payload_bar, payload_bar]
    exact BI.Entails.refl _
  iapply hall
  isplitl [Hp1]; · iexact Hp1
  iexact Hp2

end Cert.KernelIdeal.Line

end
-- ==== Proof.Chain.lean ====
/-
  The chains of steps after the barrier.
-/
module

public import proofs.«01_k».proof.Proof.Barrier

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (P : Dev nD → Vec F S512x512 .f32)

local notation "𝕄" => MT nD τ sig Unit (Elt F) ℕ UU ℕ

/-! ## The middle device -/

/-- The first sums before block `a` formed and sent, the results before block `b` formed and sent. -/
def stM (c : Dev nD) (a b : ℕ) : sProp 𝕄 :=
  iprop(owing (F := F) c (dueM c a b) ∗ upTo (formHave P c) (formNeed P c) a ∗ upTo (fun k => slotPt sM c k fullShare.right (formP P c)) (fun _ => iprop(emp)) a
    ∗ upTo (backHave P c) (backNeed (F := F) c) b)

theorem form_go (κ : GSem nD τ sig → ℕ) {c : Dev nD} (h : Mid c) (R : sProp 𝕄) (Q : PUnit → sProp 𝕄) (k : Fin 8) (a b : ℕ) (ha : a = k.val) {rest : PUnit → Rest F PUnit}
    (hr : iprop(ctx P κ ∗ stM P c (a + 1) b ∗ R) ⊢ run c (rest ⟨⟩) Q) : iprop(ctx P κ ∗ stM P c a b ∗ R) ⊢ run c (formE k (across c) rest) Q := by
  subst ha
  unfold stM
  iintro ⟨#Hctx, ⟨HO, Hf, Hr, Hb⟩, HR⟩
  ihave Hf := (upTo_next (formHave P c) (formNeed P c) k) $$ Hf
  icases Hf with ⟨Hn, Hf⟩
  ihave Hr := (upTo_next (fun k => slotPt sM c k fullShare.right (formP P c)) (fun _ => iprop(emp)) k) $$ Hr
  icases Hr with ⟨-, Hr⟩
  iapply (form_rule P κ c h k k.val b rfl rest Q) $$ [HO Hn]
  · isplitr; · iexact Hctx
    isplitl [HO]; · iexact HO
    iexact Hn
  iintro ⟨HO, Hh, Hs⟩
  iapply hr
  unfold stM
  isplitr; · iexact Hctx
  isplitr [HR]
  · isplitl [HO]; · iexact HO
    isplitl [Hh Hf]; · iapply Hf; iexact Hh
    isplitl [Hs Hr]; · iapply Hr; iexact Hs
    iexact Hb
  iexact HR

theorem back_go (κ : GSem nD τ sig → ℕ) {c : Dev nD} (h : Mid c) (R : sProp 𝕄) (Q : PUnit → sProp 𝕄) (k : Fin 8) (a b : ℕ) (ha : k.val < a) (hb : b = k.val) {rest : PUnit → Rest F PUnit}
    (hr : iprop(ctx P κ ∗ stM P c a (b + 1) ∗ R) ⊢ run c (rest ⟨⟩) Q) : iprop(ctx P κ ∗ stM P c a b ∗ R) ⊢ run c (backE k (near c) rest) Q := by
  subst hb
  unfold stM
  iintro ⟨#Hctx, ⟨HO, Hf, Hr, Hb⟩, HR⟩
  ihave Hb := (upTo_next (backHave P c) (backNeed (F := F) c) k) $$ Hb
  icases Hb with ⟨Hn, Hb⟩
  ihave Hr := (upTo_done (fun k => slotPt sM c k fullShare.right (formP P c)) (fun _ => iprop(emp)) k a ha) $$ Hr
  icases Hr with ⟨Hs, Hr⟩
  iapply (back_rule P κ c h k a k.val ha rfl rest Q) $$ [HO Hn Hs]
  · isplitr; · iexact Hctx
    isplitl [HO]; · iexact HO
    isplitl [Hn]; · iexact Hn
    iexact Hs
  iintro ⟨HO, Hh, Hs⟩
  iapply hr
  unfold stM
  isplitr; · iexact Hctx
  isplitr [HR]
  · isplitl [HO]; · iexact HO
    isplitl [Hf]; · iexact Hf
    isplitl [Hs Hr]; · iapply Hr; iexact Hs
    iapply Hb; iexact Hh
  iexact HR

/-- The sends before block `a` waited for. -/
def stD (c : Dev nD) (a : ℕ) : sProp 𝕄 := iprop(owing (F := F) c 0 ∗ upTo (sentHave P c) (sentNeed (F := F) c) a)

theorem doneM_go (κ : GSem nD τ sig → ℕ) {c : Dev nD} (h : Mid c) (R : sProp 𝕄) (Q : PUnit → sProp 𝕄) (k : Fin 8) (a : ℕ) (ha : a = k.val) {rest : PUnit → Rest F PUnit}
    (hr : iprop(ctx P κ ∗ stD P c (a + 1) ∗ R) ⊢ run c (rest ⟨⟩) Q) : iprop(ctx P κ ∗ stD P c a ∗ R) ⊢ run c (doneM k rest) Q := by
  subst ha
  unfold stD
  iintro ⟨#Hctx, ⟨HO, Hf⟩, HR⟩
  ihave Hf := (upTo_next (sentHave P c) (sentNeed (F := F) c) k) $$ Hf
  icases Hf with ⟨Hn, Hf⟩
  iapply (doneM_rule P κ c h k rest Q) $$ [HO Hn]
  · isplitr; · iexact Hctx
    isplitl [HO]; · iexact HO
    iexact Hn
  iintro ⟨HO, Hh⟩
  iapply hr
  unfold stD
  isplitr; · iexact Hctx
  isplitr [HR]
  · isplitl [HO]; · iexact HO
    iapply Hf; iexact Hh
  iexact HR

/-- What is left of block `k` once its sends remain to be waited for. -/
def keptM (c : Dev nD) (k : Fin 8) : sProp 𝕄 :=
  iprop(atPos ER (cell c 1 k) (0 + 1) ∅ 0 ∗ rowsPt pM c k fullShare (P c) ∗ slotPt bM c k fullShare (recvP P c)
    ∗ slotPt sM c k fullShare.right (formP P c) ∗ atPos ER (cell c 3 k) (0 + 1) ∅ 0 ∗ slotPt mM c k fullShare (swapP P c))

/-- All blocks sent: the waits for the sends begin. -/
theorem turn_mid (c : Dev nD) :
    iprop(stM P c 8 8 ∗ bigSep Finset.univ fun k : Fin 8 => iprop(atPos ER (cell c 2 k) 0 ∅ 0 ∗ atPos ER (cell c 4 k) 0 ∅ 0))
      ⊢ iprop(stD P c 0 ∗ bigSep Finset.univ (keptM P c)) := by
  unfold stM stD
  rw [upTo_all, upTo_all, upTo_all, upTo_zero, show dueM c 8 8 = 0 from by unfold dueM; rw [due_end, due_end, add_zero]]
  unfold formHave backHave sentNeed keptM
  simp only [bigSep_sep']
  iintro ⟨⟨HO, ⟨Ha1, Hp, Hb, Hc2⟩, Hs, ⟨Ha3, Hm, Hc4⟩⟩, Ha2, Ha4⟩
  isplitl [HO Ha2 Ha4 Hc2 Hc4]
  · isplitl [HO]; · iexact HO
    isplitl [Ha2]; · iexact Ha2
    isplitl [Ha4]; · iexact Ha4
    isplitl [Hc2]; · iexact Hc2
    iexact Hc4
  isplitl [Ha1]; · iexact Ha1
  isplitl [Hp]; · iexact Hp
  isplitl [Hb]; · iexact Hb
  isplitl [Hs]; · iexact Hs
  isplitl [Ha3]; · iexact Ha3
  iexact Hm

/-- The middle device's whole chain. -/
theorem midTail_rule (κ : GSem nD τ sig → ℕ) {c : Dev nD} (h : Mid c) (R : sProp 𝕄) (Q : PUnit → sProp 𝕄)
    (hQ : iprop(ctx P κ ∗ stD P c 8 ∗ bigSep Finset.univ (keptM P c) ∗ R) ⊢ run c (.ret ⟨⟩ : Rest F PUnit) Q) :
    iprop(ctx P κ ∗ stM P c 0 0 ∗ (bigSep Finset.univ fun k : Fin 8 => iprop(atPos ER (cell c 2 k) 0 ∅ 0 ∗ atPos ER (cell c 4 k) 0 ∅ 0)) ∗ R)
      ⊢ run c (midTail (F := F) c) Q := by
  unfold midTail
  refine form_go P κ h _ Q 0 0 0 rfl <| form_go P κ h _ Q 1 1 0 rfl <| form_go P κ h _ Q 2 2 0 rfl <| back_go P κ h _ Q 0 3 0 (by decide) rfl <|
    form_go P κ h _ Q 3 3 1 rfl <| back_go P κ h _ Q 1 4 1 (by decide) rfl <| form_go P κ h _ Q 4 4 2 rfl <| back_go P κ h _ Q 2 5 2 (by decide) rfl <|
    form_go P κ h _ Q 5 5 3 rfl <| back_go P κ h _ Q 3 6 3 (by decide) rfl <| form_go P κ h _ Q 6 6 4 rfl <| back_go P κ h _ Q 4 7 4 (by decide) rfl <|
    form_go P κ h _ Q 7 7 5 rfl <| back_go P κ h _ Q 5 8 5 (by decide) rfl <| back_go P κ h _ Q 6 8 6 (by decide) rfl <| back_go P κ h _ Q 7 8 7 (by decide) rfl <| ?_
  have turn : iprop(ctx P κ ∗ stM P c 8 8 ∗ (bigSep Finset.univ fun k : Fin 8 => iprop(atPos ER (cell c 2 k) 0 ∅ 0 ∗ atPos ER (cell c 4 k) 0 ∅ 0)) ∗ R)
      ⊢ iprop(ctx P κ ∗ stD P c 0 ∗ (bigSep Finset.univ (keptM P c) ∗ R)) := by
    iintro ⟨#Hctx, Hst, Hat, HR⟩
    ihave H := (turn_mid P c) $$ [Hst Hat]
    · isplitl [Hst]; · iexact Hst
      iexact Hat
    icases H with ⟨HD, HK⟩
    isplitr; · iexact Hctx
    isplitl [HD]; · iexact HD
    isplitl [HK]; · iexact HK
    iexact HR
  refine turn.trans ?_
  exact doneM_go P κ h _ Q 0 0 rfl <| doneM_go P κ h _ Q 1 1 rfl <| doneM_go P κ h _ Q 2 2 rfl <| doneM_go P κ h _ Q 3 3 rfl <|
    doneM_go P κ h _ Q 4 4 rfl <| doneM_go P κ h _ Q 5 5 rfl <| doneM_go P κ h _ Q 6 6 rfl <| doneM_go P κ h _ Q 7 7 rfl hQ

/-! ## The end device -/

/-- The row blocks before `a` sent. -/
def stE (c : Dev nD) (a : ℕ) : sProp 𝕄 := iprop(owing (F := F) c (dueE c a) ∗ upTo (fun k => cred (tallyAt (cell c 0 k) () N)) (sendNeed P c) a)
/-- The result's blocks before `a` received, and the sent blocks before `b` taken back. -/
def stF (c : Dev nD) (a b : ℕ) : sProp 𝕄 := iprop(owing (F := F) c 0 ∗ upTo (takeHave P c) (takeNeed (F := F) c) a ∗ upTo (doneHave P c) (doneNeed (F := F) c) b)

theorem sendE_go (κ : GSem nD τ sig → ℕ) {c : Dev nD} (h : ¬ Mid c) (R : sProp 𝕄) (Q : PUnit → sProp 𝕄) (k : Fin 8) (a : ℕ) (ha : a = k.val) {rest : PUnit → Rest F PUnit}
    (hr : iprop(ctx P κ ∗ stE P c (a + 1) ∗ R) ⊢ run c (rest ⟨⟩) Q) : iprop(ctx P κ ∗ stE P c a ∗ R) ⊢ run c (sendE k (near c) rest) Q := by
  subst ha
  unfold stE
  iintro ⟨#Hctx, ⟨HO, Hf⟩, HR⟩
  ihave Hf := (upTo_next (fun k => cred (tallyAt (cell c 0 k) () N)) (sendNeed P c) k) $$ Hf
  icases Hf with ⟨Hn, Hf⟩
  iapply (sendE_rule P κ c h k k.val rfl rest Q) $$ [HO Hn]
  · isplitr; · iexact Hctx
    isplitl [HO]; · iexact HO
    iexact Hn
  iintro ⟨HO, Hh⟩
  iapply hr
  unfold stE
  isplitr; · iexact Hctx
  isplitr [HR]
  · isplitl [HO]; · iexact HO
    iapply Hf; iexact Hh
  iexact HR

theorem takeE_go (κ : GSem nD τ sig → ℕ) {c : Dev nD} (h : ¬ Mid c) (R : sProp 𝕄) (Q : PUnit → sProp 𝕄) (k : Fin 8) (a b : ℕ) (ha : a = k.val) {rest : PUnit → Rest F PUnit}
    (hr : iprop(ctx P κ ∗ stF P c (a + 1) b ∗ R) ⊢ run c (rest ⟨⟩) Q) : iprop(ctx P κ ∗ stF P c a b ∗ R) ⊢ run c (takeE k rest) Q := by
  subst ha
  unfold stF
  iintro ⟨#Hctx, ⟨HO, Hf, Hd⟩, HR⟩
  ihave Hf := (upTo_next (takeHave P c) (takeNeed (F := F) c) k) $$ Hf
  icases Hf with ⟨Hn, Hf⟩
  iapply (takeE_rule P κ c h k rest Q) $$ [HO Hn]
  · isplitr; · iexact Hctx
    isplitl [HO]; · iexact HO
    iexact Hn
  iintro ⟨HO, Hh⟩
  iapply hr
  unfold stF
  isplitr; · iexact Hctx
  isplitr [HR]
  · isplitl [HO]; · iexact HO
    isplitl [Hf Hh]; · iapply Hf; iexact Hh
    iexact Hd
  iexact HR

theorem doneE_go (κ : GSem nD τ sig → ℕ) {c : Dev nD} (h : ¬ Mid c) (R : sProp 𝕄) (Q : PUnit → sProp 𝕄) (k : Fin 8) (a b : ℕ) (hb : b = k.val) {rest : PUnit → Rest F PUnit}
    (hr : iprop(ctx P κ ∗ stF P c a (b + 1) ∗ R) ⊢ run c (rest ⟨⟩) Q) : iprop(ctx P κ ∗ stF P c a b ∗ R) ⊢ run c (doneE k rest) Q := by
  subst hb
  unfold stF
  iintro ⟨#Hctx, ⟨HO, Hf, Hd⟩, HR⟩
  ihave Hd := (upTo_next (doneHave P c) (doneNeed (F := F) c) k) $$ Hd
  icases Hd with ⟨Hn, Hd⟩
  iapply (doneE_rule P κ c h k rest Q) $$ [HO Hn]
  · isplitr; · iexact Hctx
    isplitl [HO]; · iexact HO
    iexact Hn
  iintro ⟨HO, Hh⟩
  iapply hr
  unfold stF
  isplitr; · iexact Hctx
  isplitr [HR]
  · isplitl [HO]; · iexact HO
    isplitl [Hf]; · iexact Hf
    iapply Hd; iexact Hh
  iexact HR

/-- All row blocks sent: the waits begin. -/
theorem turn_end (c : Dev nD) :
    iprop(stE P c 8 ∗ bigSep Finset.univ (takeNeed (F := F) c) ∗ bigSep Finset.univ fun k : Fin 8 => atPos ER (cell c 0 k) 0 ∅ 0) ⊢ stF P c 0 0 := by
  unfold stE stF
  rw [upTo_all, upTo_zero, upTo_zero, show dueE c 8 = 0 from due_end _]
  unfold doneNeed
  rw [bigSep_sep']
  iintro ⟨⟨HO, Hc⟩, Ht, Ha⟩
  isplitl [HO]; · iexact HO
  isplitl [Ht]; · iexact Ht
  isplitl [Ha]; · iexact Ha
  iexact Hc

/-- The end device's whole chain. -/
theorem endTail_rule (κ : GSem nD τ sig → ℕ) {c : Dev nD} (h : ¬ Mid c) (R : sProp 𝕄) (Q : PUnit → sProp 𝕄)
    (hQ : iprop(ctx P κ ∗ stF P c 8 8 ∗ R) ⊢ run c (.ret ⟨⟩ : Rest F PUnit) Q) :
    iprop(ctx P κ ∗ stE P c 0 ∗ (bigSep Finset.univ (takeNeed (F := F) c) ∗ bigSep Finset.univ fun k : Fin 8 => atPos ER (cell c 0 k) 0 ∅ 0) ∗ R)
      ⊢ run c (endTail (F := F) c) Q := by
  unfold endTail
  refine sendE_go P κ h _ Q 0 0 rfl <| sendE_go P κ h _ Q 1 1 rfl <| sendE_go P κ h _ Q 2 2 rfl <| sendE_go P κ h _ Q 3 3 rfl <|
    sendE_go P κ h _ Q 4 4 rfl <| sendE_go P κ h _ Q 5 5 rfl <| sendE_go P κ h _ Q 6 6 rfl <| sendE_go P κ h _ Q 7 7 rfl <| ?_
  have turn : iprop(ctx P κ ∗ stE P c 8 ∗ (bigSep Finset.univ (takeNeed (F := F) c) ∗ bigSep Finset.univ fun k : Fin 8 => atPos ER (cell c 0 k) 0 ∅ 0) ∗ R)
      ⊢ iprop(ctx P κ ∗ stF P c 0 0 ∗ R) := by
    iintro ⟨#Hctx, Hst, Hat, HR⟩
    isplitr; · iexact Hctx
    isplitl [Hst Hat]
    · iapply (turn_end P c)
      isplitl [Hst]; · iexact Hst
      iexact Hat
    iexact HR
  refine turn.trans ?_
  exact takeE_go P κ h _ Q 0 0 0 rfl <| takeE_go P κ h _ Q 1 1 0 rfl <| takeE_go P κ h _ Q 2 2 0 rfl <| takeE_go P κ h _ Q 3 3 0 rfl <|
    takeE_go P κ h _ Q 4 4 0 rfl <| takeE_go P κ h _ Q 5 5 0 rfl <| takeE_go P κ h _ Q 6 6 0 rfl <| takeE_go P κ h _ Q 7 7 0 rfl <|
    doneE_go P κ h _ Q 0 8 0 rfl <| doneE_go P κ h _ Q 1 8 1 rfl <| doneE_go P κ h _ Q 2 8 2 rfl <| doneE_go P κ h _ Q 3 8 3 rfl <|
    doneE_go P κ h _ Q 4 8 4 rfl <| doneE_go P κ h _ Q 5 8 5 rfl <| doneE_go P κ h _ Q 6 8 6 rfl <| doneE_go P κ h _ Q 7 8 7 rfl hQ

end Cert.KernelIdeal.Line

end
-- ==== Proof.Body.lean ====
/-
  The body's whole run on a device: from its buffers, the counters opened and what it owes, to the result in place,
  nothing owed, and every counter back at zero.
-/
module

public import proofs.«01_k».proof.Proof.Chain

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

/-! ## Whole buffers and their blocks -/

abbrev wholeR (M : Memref sig .tc .vmem S512x512 .f32) (c : Dev nD) (f : Buf (Elt F) (M.view.loc (c : Thread nD τ))) : sProp 𝕄 :=
  M.view.loc (c : Thread nD τ) ↦[M.view.set]{fullShare} f
abbrev wholeS (M : Memref sig .tc .vmem S8x64x512 .f32) (c : Dev nD) (q : PosShare TreeShare) (f : Buf (Elt F) (M.view.loc (c : Thread nD τ))) : sProp 𝕄 :=
  M.view.loc (c : Thread nD τ) ↦[M.view.set]{q} f

theorem rows_whole (M : Memref sig .tc .vmem S512x512 .f32) (c : Dev nD) (f : Buf (Elt F) (M.view.loc (c : Thread nD τ))) :
    (wholeR M c f : sProp 𝕄) = bigSep Finset.univ fun k => rowsPt M c k fullShare f := by
  unfold wholeR
  rw [← rows_cover M]
  exact pointsTo_biUnion _ _ fun k _ k' _ h => rows_disjoint M k k' h
theorem slot_whole (M : Memref sig .tc .vmem S8x64x512 .f32) (c : Dev nD) (q : PosShare TreeShare) (f : Buf (Elt F) (M.view.loc (c : Thread nD τ))) :
    (wholeS M c q f : sProp 𝕄) = bigSep Finset.univ fun k => slotPt M c k q f := by
  unfold wholeS
  rw [← slot_cover M]
  exact pointsTo_biUnion _ _ fun k _ k' _ h => slot_disjoint M k k' h
/-- The blocks, each at contents not named. -/
theorem rows_some (M : Memref sig .tc .vmem S512x512 .f32) (c : Dev nD) :
    (iprop(∃ f, wholeR M c f) : sProp 𝕄) ⊢ bigSep Finset.univ fun k => iprop(∃ f, rowsPt (F := F) M c k fullShare f) := by
  iintro ⟨%f, H⟩
  have spread := bigSep_mono (s := Finset.univ) (Φ := fun k => (rowsPt M c k fullShare f : sProp 𝕄)) (Ψ := fun k => iprop(∃ f, rowsPt M c k fullShare f))
    fun k _ => BI.BIClass.exists_intro (Φ := fun f => (rowsPt M c k fullShare f : sProp 𝕄)) f
  iapply ((Entails.of_eq (rows_whole M c f)).trans spread); iexact H
theorem slot_some (M : Memref sig .tc .vmem S8x64x512 .f32) (c : Dev nD) :
    (iprop(∃ f, wholeS M c fullShare f) : sProp 𝕄) ⊢ bigSep Finset.univ fun k => iprop(∃ f, slotPt (F := F) M c k fullShare f) := by
  iintro ⟨%f, H⟩
  have spread := bigSep_mono (s := Finset.univ) (Φ := fun k => (slotPt M c k fullShare f : sProp 𝕄)) (Ψ := fun k => iprop(∃ f, slotPt M c k fullShare f))
    fun k _ => BI.BIClass.exists_intro (Φ := fun f => (slotPt M c k fullShare f : sProp 𝕄)) f
  iapply ((Entails.of_eq (slot_whole M c fullShare f)).trans spread); iexact H

/-! ## The six families of counters -/

def fam (Φ : Fin 6 → Fin 8 → sProp 𝕄) : sProp 𝕄 := bigSep Finset.univ fun x : Fin 6 × Fin 8 => Φ x.1 x.2

theorem fam_eq (Φ : Fin 6 → Fin 8 → sProp 𝕄) :
    fam Φ = iprop(bigSep Finset.univ (Φ 0) ∗ bigSep Finset.univ (Φ 1) ∗ bigSep Finset.univ (Φ 2) ∗ bigSep Finset.univ (Φ 3) ∗ bigSep Finset.univ (Φ 4) ∗ bigSep Finset.univ (Φ 5)) := by
  unfold fam
  rw [bigSep_univ_prod, bigSep_univ_eq_bigSepL [0, 1, 2, 3, 4, 5] (by decide) (by decide)]
  rfl

/-- What a device owes at launch. -/
def O₀ (c : Dev nD) : CellTallies nD τ sig Unit :=
  tallyAt (barCell (near c)) () 1 + if Mid c then tallyAt (barCell (across c)) () 1 + dueM c 0 0 else dueE c 0

/-- The credit a device starts with: its barrier's units and the transfers it will receive. -/
def credits (c : Dev nD) : sProp 𝕄 :=
  if Mid c then iprop(cred (tallyAt (barCell c) () 2) ∗ (bigSep Finset.univ fun k => cred (tallyAt (cell c 1 k) () N)) ∗ bigSep Finset.univ fun k => cred (tallyAt (cell c 3 k) () N))
  else iprop(cred (tallyAt (barCell c) () 1) ∗ bigSep Finset.univ fun k => cred (tallyAt (cell c 5 k) () N))

/-- The duties a device pays (of those a device of its kind has). -/
def rights (c : Dev nD) : sProp 𝕄 :=
  iprop(dutyTok ER (barCell (near c)) 0 false ∗ dutyTok ER (barCell (across c)) 0 true
    ∗ (bigSep Finset.univ fun k => dutyTok ER (cell c 0 k) 0 false) ∗ (bigSep Finset.univ fun k => dutyTok ER (cell (near c) 1 k) 0 false)
    ∗ (bigSep Finset.univ fun k => dutyTok ER (cell c 2 k) 0 false) ∗ (bigSep Finset.univ fun k => dutyTok ER (cell (across c) 3 k) 0 false)
    ∗ (bigSep Finset.univ fun k => dutyTok ER (cell c 4 k) 0 false) ∗ (bigSep Finset.univ fun k => dutyTok ER (cell (near c) 5 k) 0 false))

/-- The positions of a device's own counters, all at the start. -/
def opened (c : Dev nD) : sProp 𝕄 :=
  iprop(atPos ER (barCell c) 0 ∅ 0 ∗ fam (fun j k => atPos ER (cell c j k) 0 ∅ 0) ∗ fam (fun j k => reached ER (cell c j k) 0))

variable [FloatOps F] (P : Dev nD → Vec F S512x512 .f32)

/-- Before the body. -/
def bodyPre (c : Dev nD) : sProp 𝕄 :=
  iprop(owing (F := F) c (O₀ c) ∗ opened (F := F) c ∗ rights (F := F) c ∗ credits (F := F) c
    ∗ wholeR pM c (P c) ∗ (∃ f, wholeR (F := F) oM c f) ∗ (∃ f, wholeS (F := F) bM c fullShare f) ∗ (∃ f, wholeS (F := F) sM c fullShare f) ∗ (∃ f, wholeS (F := F) mM c fullShare f))
/-- After it. -/
def bodyPost (c : Dev nD) : sProp 𝕄 :=
  iprop(owing (F := F) c 0 ∗ (semVal (barCell c) 0 ∗ fam fun j k => semVal (cell c j k) 0)
    ∗ wholeR pM c (P c) ∗ wholeR oM c (outP P c) ∗ (∃ f, wholeS (F := F) bM c fullShare f) ∗ (∃ f, wholeS (F := F) sM c fullShare f) ∗ (∃ f, wholeS (F := F) mM c fullShare f))

theorem ret_run (c : Dev nD) (Q : PUnit → sProp 𝕄) : (iprop(|={Set.univ}=> Q ⟨⟩) : sProp 𝕄) = run c (.ret ⟨⟩ : Rest F PUnit) Q := rfl

/-! ## Closing the counters -/

theorem close_bar (κ : GSem nD τ sig → ℕ) (c : Dev nD) : iprop(ctx P κ ∗ atPos ER (barCell c) (0 + 1) ∅ 0) ⊢ (|={Set.univ}=> semVal (barCell c) 0 : sProp 𝕄) :=
  (sep_mono_left (ctx_bar P κ c)).trans (Rounds.cell_close ER (Rd P) (Set.mem_univ _) id (duties_later P _))
theorem close_fam (κ : GSem nD τ sig → ℕ) (c : Dev nD) (j : Fin 6) (R : ℕ) (h : ∀ k r, R ≤ r → (Rd P).duties (cell c j k) r = ∅) :
    iprop(ctx P κ ∗ bigSep Finset.univ fun k => atPos ER (cell c j k) R ∅ 0) ⊢ (|={Set.univ}=> bigSep Finset.univ fun k => semVal (cell c j k) 0 : sProp 𝕄) :=
  (bigSep_with_persistent fun k _ => (sep_mono_left (ctx_cell P κ c j k)).trans (Rounds.cell_close ER (Rd P) (Set.mem_univ _) id (h k))).trans (bigSep_fupd _ _)
theorem close_done (κ : GSem nD τ sig → ℕ) (c : Dev nD) (j : Fin 6) :
    iprop(ctx P κ ∗ bigSep Finset.univ fun k => atPos ER (cell c j k) (0 + 1) ∅ 0) ⊢ (|={Set.univ}=> bigSep Finset.univ fun k => semVal (cell c j k) 0 : sProp 𝕄) :=
  close_fam P κ c j _ fun k => duties_later P _
theorem close_idle (κ : GSem nD τ sig → ℕ) (c : Dev nD) (j : Fin 6) (h : ¬ Used c j.val) :
    iprop(ctx P κ ∗ bigSep Finset.univ fun k => atPos ER (cell c j k) 0 ∅ 0) ⊢ (|={Set.univ}=> bigSep Finset.univ fun k => semVal (cell c j k) 0 : sProp 𝕄) :=
  close_fam P κ c j _ fun k r _ => duties_unused P c j k h r

/-! ## The middle device -/

theorem true_mem_bar {c : Dev nD} (h : Mid c) : true ∈ (Rd P).duties (barCell c) 0 := by rw [duties_bar_mid P c h]; decide

/-- Its two signals, in either order. -/
theorem tells_mid_rule (κ : GSem nD τ sig → ℕ) {c : Dev nD} (h : Mid c) (rest : PUnit → Rest F PUnit) (Q : PUnit → sProp 𝕄) :
    iprop(ctx P κ ∗ owing (F := F) c (O₀ c) ∗ dutyTok ER (barCell (near c)) 0 false ∗ dutyTok ER (barCell (across c)) 0 true
        ∗ (bigSep Finset.univ fun k => offerRecv (F := F) c k) ∗ bigSep Finset.univ fun k => offerSwap (F := F) c k)
      ⊢ iprop((owing (F := F) c (dueM c 0 0) -∗ run c (rest ⟨⟩) Q) -∗ run c (tellE (left c) fun _ => tellE (right c) rest) Q) := by
  have hO : O₀ c = tallyAt (barCell (near c)) () 1 + (tallyAt (barCell (across c)) () 1 + dueM c 0 0) := by unfold O₀; rw [if_pos h]
  have e1 : barPay (F := F) (near c) false = bigSep Finset.univ fun k => offerRecv (F := F) c k := by
    unfold barPay; rw [if_neg Bool.false_ne_true, if_neg (end_of_near h), near_near]
  have e2 : barPay (F := F) (across c) true = bigSep Finset.univ fun k => offerSwap (F := F) c k := by
    unfold barPay; rw [if_pos rfl, across_across]
  rw [hO, ← e1, ← e2]
  unfold left right
  iintro ⟨#Hctx, HO, Ht1, Ht2, Hp1, Hp2⟩ Hk
  split
  · iapply (tell_rule P κ c (near c) false (false_mem_bar P _) _ (tallyAt (barCell (across c)) () 1 + dueM c 0 0) (add_comm _ _) (fun _ => tellE (across c) rest) Q) $$ [HO Ht1 Hp1]
    · isplitr; · iexact Hctx
      isplitl [HO]; · iexact HO
      isplitl [Ht1]; · iexact Ht1
      iexact Hp1
    iintro HO
    iapply (tell_rule P κ c (across c) true (true_mem_bar P (mid_of_across h)) _ (dueM c 0 0) (add_comm _ _) rest Q) $$ [HO Ht2 Hp2]
    · isplitr; · iexact Hctx
      isplitl [HO]; · iexact HO
      isplitl [Ht2]; · iexact Ht2
      iexact Hp2
    iexact Hk
  · iapply (tell_rule P κ c (across c) true (true_mem_bar P (mid_of_across h)) _ (tallyAt (barCell (near c)) () 1 + dueM c 0 0)
      (by rw [add_assoc, add_comm (dueM c 0 0)]) (fun _ => tellE (near c) rest) Q) $$ [HO Ht2 Hp2]
    · isplitr; · iexact Hctx
      isplitl [HO]; · iexact HO
      isplitl [Ht2]; · iexact Ht2
      iexact Hp2
    iintro HO
    iapply (tell_rule P κ c (near c) false (false_mem_bar P _) _ (dueM c 0 0) (add_comm _ _) rest Q) $$ [HO Ht1 Hp1]
    · isplitr; · iexact Hctx
      isplitl [HO]; · iexact HO
      isplitl [Ht1]; · iexact Ht1
      iexact Hp1
    iexact Hk

/-- After the chain: the counters closed, the buffers whole. -/
theorem mid_end (κ : GSem nD τ sig → ℕ) {c : Dev nD} (h : Mid c) :
    iprop(ctx P κ ∗ stD P c 8 ∗ bigSep Finset.univ (keptM P c) ∗ atPos ER (barCell c) (0 + 1) ∅ 0
        ∗ (bigSep Finset.univ fun k => atPos ER (cell c 0 k) 0 ∅ 0) ∗ bigSep Finset.univ fun k => atPos ER (cell c 5 k) 0 ∅ 0)
      ⊢ (|={Set.univ}=> bodyPost P c : sProp 𝕄) := by
  unfold stD
  rw [upTo_all]
  unfold bodyPost sentHave keptM
  rw [fam_eq, rows_whole, rows_whole]
  simp only [bigSep_sep']
  iintro ⟨#Hctx, ⟨HO, Ha2, Ha4, Hl, Ho⟩, ⟨Ha1, Hp, Hb, Hr, Ha3, Hm⟩, HaB, Ha0, Ha5⟩
  imod (close_bar P κ c) $$ [HaB] with HvB
  · isplitr; · iexact Hctx
    iexact HaB
  imod (close_idle P κ c 0 (fun u => absurd ((if_pos h).mp u).1 (by decide))) $$ [Ha0] with Hv0
  · isplitr; · iexact Hctx
    iexact Ha0
  imod (close_done P κ c 1) $$ [Ha1] with Hv1
  · isplitr; · iexact Hctx
    iexact Ha1
  imod (close_done P κ c 2) $$ [Ha2] with Hv2
  · isplitr; · iexact Hctx
    iexact Ha2
  imod (close_done P κ c 3) $$ [Ha3] with Hv3
  · isplitr; · iexact Hctx
    iexact Ha3
  imod (close_done P κ c 4) $$ [Ha4] with Hv4
  · isplitr; · iexact Hctx
    iexact Ha4
  imod (close_idle P κ c 5 (fun u => absurd ((if_pos h).mp u).2 (by decide))) $$ [Ha5] with Hv5
  · isplitr; · iexact Hctx
    iexact Ha5
  imodintro
  isplitl [HO]; · iexact HO
  isplitl [HvB Hv0 Hv1 Hv2 Hv3 Hv4 Hv5]
  · isplitl [HvB]; · iexact HvB
    isplitl [Hv0]; · iexact Hv0
    isplitl [Hv1]; · iexact Hv1
    isplitl [Hv2]; · iexact Hv2
    isplitl [Hv3]; · iexact Hv3
    isplitl [Hv4]; · iexact Hv4
    iexact Hv5
  isplitl [Hp]; · iexact Hp
  isplitl [Ho]; · iexact Ho
  isplitl [Hb]
  · iexists (recvP P c); iapply (Entails.of_eq (slot_whole bM c fullShare (recvP P c)).symm); iexact Hb
  isplitl [Hl Hr]
  · iexists (formP P c)
    iapply (pointsTo_share (PosShare.mem_left_op_right fullShare)).2
    isplitl [Hl]
    · iapply (Entails.of_eq (slot_whole sM c fullShare.left (formP P c)).symm); iexact Hl
    iapply (Entails.of_eq (slot_whole sM c fullShare.right (formP P c)).symm); iexact Hr
  iexists (swapP P c); iapply (Entails.of_eq (slot_whole mM c fullShare (swapP P c)).symm); iexact Hm

theorem body_mid_rule (κ : GSem nD τ sig → ℕ) {c : Dev nD} (h : Mid c) (Q : PUnit → sProp 𝕄) :
    iprop(ctx P κ ∗ bodyPre P c ∗ (bodyPost P c -∗ Q ⟨⟩)) ⊢ run c (body (F := F)) Q := by
  rw [body_mid c h Q]
  unfold bodyPre opened rights credits
  rw [fam_eq, fam_eq, if_pos h, rows_whole]
  iintro ⟨#Hctx, ⟨HO, ⟨HaB, ⟨Ha0, Ha1, Ha2, Ha3, Ha4, Ha5⟩, ⟨-, Hr1, Hr2, Hr3, Hr4, -⟩⟩, ⟨HtB, HtB', -, -, Ht2, Ht3, Ht4, Ht5⟩, ⟨HcB, Hc1, Hc3⟩, Hp, Ho, Hb, Hs, Hm⟩, HQ⟩
  ihave Ho := (rows_some oM c) $$ Ho
  ihave Hb := (slot_some bM c) $$ Hb
  ihave Hs := (slot_some sM c) $$ Hs
  ihave Hm := (slot_some mM c) $$ Hm
  iapply (tells_mid_rule P κ h (fun _ => meetE fun _ => meetE fun _ => midTail c) Q) $$ [HO HtB HtB' Hb Hm Hr1 Hr3]
  · isplitr; · iexact Hctx
    isplitl [HO]; · iexact HO
    isplitl [HtB]; · iexact HtB
    isplitl [HtB']; · iexact HtB'
    unfold offerRecv offerSwap
    rw [bigSep_sep', bigSep_sep']
    isplitl [Hb Hr1]
    · isplitl [Hb]; · iexact Hb
      iexact Hr1
    isplitl [Hm]; · iexact Hm
    iexact Hr3
  iintro HO
  iapply (meet_mid P κ c h (fun _ => midTail c) Q) $$ [HcB HO HaB]
  · isplitr; · iexact Hctx
    isplitl [HcB]; · iexact HcB
    isplitl [HO]; · iexact HO
    iexact HaB
  have e1 : barPay (F := F) c false = bigSep Finset.univ fun k => offerOut (F := F) (near c) k := by
    unfold barPay; rw [if_neg Bool.false_ne_true, if_pos h]
  have e2 : barPay (F := F) c true = bigSep Finset.univ fun k => offerSwap (F := F) (across c) k := by
    unfold barPay; rw [if_pos rfl]
  rw [e1, e2]
  iintro ⟨HO, HaB, Hout, Hswap⟩
  iapply (midTail_rule P κ h iprop(atPos ER (barCell c) (0 + 1) ∅ 0
        ∗ ((bigSep Finset.univ fun k => atPos ER (cell c 0 k) 0 ∅ 0) ∗ (bigSep Finset.univ fun k => atPos ER (cell c 5 k) 0 ∅ 0)) ∗ (bodyPost P c -∗ Q ⟨⟩)) Q (by
    iintro ⟨#Hctx, HD, HK, HaB, ⟨Ha0, Ha5⟩, HQ⟩
    iapply (Entails.of_eq (ret_run c Q))
    imod (mid_end P κ h) $$ [HD HK HaB Ha0 Ha5] with Hpost
    · isplitr; · iexact Hctx
      isplitl [HD]; · iexact HD
      isplitl [HK]; · iexact HK
      isplitl [HaB]; · iexact HaB
      isplitl [Ha0]; · iexact Ha0
      iexact Ha5
    imodintro
    iapply HQ; iexact Hpost))
  isplitr; · iexact Hctx
  isplitl [HO Ha1 Hc1 Hp Hs Hswap Ht2 Hr2 Ht3 Ha3 Hc3 Ho Hout Ht4 Hr4 Ht5]
  · unfold stM
    rw [upTo_zero, upTo_zero, upTo_zero]
    unfold formNeed backNeed
    simp only [bigSep_sep']
    isplitl [HO]; · iexact HO
    isplitl [Ha1 Hc1 Hp Hs Hswap Ht2 Hr2 Ht3]
    · isplitl [Ha1]; · iexact Ha1
      isplitl [Hc1]; · iexact Hc1
      isplitl [Hp]; · iexact Hp
      isplitl [Hs]; · iexact Hs
      isplitl [Hswap]; · iexact Hswap
      isplitl [Ht2]; · iexact Ht2
      isplitl [Hr2]; · iexact Hr2
      iexact Ht3
    isplitr; · iapply (Entails.of_eq (BI.bigSep_emp_const (M := 𝕄) (Finset.univ : Finset (Fin 8))).symm); iempintro
    isplitl [Ha3]; · iexact Ha3
    isplitl [Hc3]; · iexact Hc3
    isplitl [Ho]; · iexact Ho
    isplitl [Hout]; · iexact Hout
    isplitl [Ht4]; · iexact Ht4
    isplitl [Hr4]; · iexact Hr4
    iexact Ht5
  isplitl [Ha2 Ha4]
  · rw [bigSep_sep']
    isplitl [Ha2]; · iexact Ha2
    iexact Ha4
  isplitl [HaB]; · iexact HaB
  isplitl [Ha0 Ha5]
  · isplitl [Ha0]; · iexact Ha0
    iexact Ha5
  iexact HQ

/-! ## The end device -/

theorem end_end (κ : GSem nD τ sig → ℕ) {c : Dev nD} (h : ¬ Mid c) :
    iprop(ctx P κ ∗ stF P c 8 8 ∗ atPos ER (barCell c) (0 + 1) ∅ 0
        ∗ ((bigSep Finset.univ fun k => atPos ER (cell c 1 k) 0 ∅ 0) ∗ (bigSep Finset.univ fun k => atPos ER (cell c 2 k) 0 ∅ 0)
          ∗ (bigSep Finset.univ fun k => atPos ER (cell c 3 k) 0 ∅ 0) ∗ bigSep Finset.univ fun k => atPos ER (cell c 4 k) 0 ∅ 0)
        ∗ (∃ f, wholeS (F := F) bM c fullShare f) ∗ (∃ f, wholeS (F := F) sM c fullShare f) ∗ (∃ f, wholeS (F := F) mM c fullShare f))
      ⊢ (|={Set.univ}=> bodyPost P c : sProp 𝕄) := by
  have hu : ∀ j : ℕ, j ≠ 0 → j ≠ 5 → ¬ Used c j := fun j h0 h5 u => ((if_neg h).mp u).elim h0 h5
  unfold stF
  rw [upTo_all, upTo_all]
  unfold bodyPost takeHave doneHave
  rw [fam_eq, rows_whole, rows_whole]
  simp only [bigSep_sep']
  iintro ⟨#Hctx, ⟨HO, ⟨Ha5, Ho⟩, ⟨Ha0, Hp⟩⟩, HaB, ⟨Ha1, Ha2, Ha3, Ha4⟩, Hbufs⟩
  imod (close_bar P κ c) $$ [HaB] with HvB
  · isplitr; · iexact Hctx
    iexact HaB
  imod (close_done P κ c 0) $$ [Ha0] with Hv0
  · isplitr; · iexact Hctx
    iexact Ha0
  imod (close_idle P κ c 1 (hu _ (by decide) (by decide))) $$ [Ha1] with Hv1
  · isplitr; · iexact Hctx
    iexact Ha1
  imod (close_idle P κ c 2 (hu _ (by decide) (by decide))) $$ [Ha2] with Hv2
  · isplitr; · iexact Hctx
    iexact Ha2
  imod (close_idle P κ c 3 (hu _ (by decide) (by decide))) $$ [Ha3] with Hv3
  · isplitr; · iexact Hctx
    iexact Ha3
  imod (close_idle P κ c 4 (hu _ (by decide) (by decide))) $$ [Ha4] with Hv4
  · isplitr; · iexact Hctx
    iexact Ha4
  imod (close_done P κ c 5) $$ [Ha5] with Hv5
  · isplitr; · iexact Hctx
    iexact Ha5
  imodintro
  isplitl [HO]; · iexact HO
  isplitl [HvB Hv0 Hv1 Hv2 Hv3 Hv4 Hv5]
  · isplitl [HvB]; · iexact HvB
    isplitl [Hv0]; · iexact Hv0
    isplitl [Hv1]; · iexact Hv1
    isplitl [Hv2]; · iexact Hv2
    isplitl [Hv3]; · iexact Hv3
    isplitl [Hv4]; · iexact Hv4
    iexact Hv5
  isplitl [Hp]; · iexact Hp
  isplitl [Ho]; · iexact Ho
  iexact Hbufs

theorem body_end_rule (κ : GSem nD τ sig → ℕ) {c : Dev nD} (h : ¬ Mid c) (Q : PUnit → sProp 𝕄) :
    iprop(ctx P κ ∗ bodyPre P c ∗ (bodyPost P c -∗ Q ⟨⟩)) ⊢ run c (body (F := F)) Q := by
  rw [body_end c h Q]
  unfold bodyPre opened rights credits
  rw [fam_eq, fam_eq, if_neg h, rows_whole]
  iintro ⟨#Hctx, ⟨HO, ⟨HaB, ⟨Ha0, Ha1, Ha2, Ha3, Ha4, Ha5⟩, ⟨Hr0, -, -, -, -, Hr5⟩⟩, ⟨HtB, -, Ht0, Ht1, -, -, -, -⟩, ⟨HcB, Hc5⟩, Hp, Ho, Hbufs⟩, HQ⟩
  ihave Ho := (rows_some oM c) $$ Ho
  have e1 : barPay (F := F) (near c) false = bigSep Finset.univ fun k => offerOut (F := F) c k := by
    unfold barPay; rw [if_neg Bool.false_ne_true, if_pos (mid_of_near h), near_near]
  have e2 : barPay (F := F) c false = bigSep Finset.univ fun k => offerRecv (F := F) (near c) k := by
    unfold barPay; rw [if_neg Bool.false_ne_true, if_neg h]
  iapply (tell_rule P κ c (near c) false (false_mem_bar P _) (O₀ c) (dueE c 0) (by unfold O₀; rw [if_neg h, add_comm])
      (fun _ => meetE fun _ => endTail c) Q) $$ [HO HtB Ho Hr5]
  · isplitr; · iexact Hctx
    isplitl [HO]; · iexact HO
    isplitl [HtB]; · iexact HtB
    rw [e1]
    unfold offerOut
    rw [bigSep_sep']
    isplitl [Ho]; · iexact Ho
    iexact Hr5
  iintro HO
  iapply (meet_end P κ c h (fun _ => endTail c) Q) $$ [HcB HO HaB]
  · isplitr; · iexact Hctx
    isplitl [HcB]; · iexact HcB
    isplitl [HO]; · iexact HO
    iexact HaB
  rw [e2]
  iintro ⟨HO, HaB, Hrecv⟩
  iapply (endTail_rule P κ h iprop(atPos ER (barCell c) (0 + 1) ∅ 0
        ∗ ((bigSep Finset.univ fun k => atPos ER (cell c 1 k) 0 ∅ 0) ∗ (bigSep Finset.univ fun k => atPos ER (cell c 2 k) 0 ∅ 0)
          ∗ (bigSep Finset.univ fun k => atPos ER (cell c 3 k) 0 ∅ 0) ∗ bigSep Finset.univ fun k => atPos ER (cell c 4 k) 0 ∅ 0)
        ∗ ((∃ f, wholeS (F := F) bM c fullShare f) ∗ (∃ f, wholeS (F := F) sM c fullShare f) ∗ (∃ f, wholeS (F := F) mM c fullShare f))
        ∗ (bodyPost P c -∗ Q ⟨⟩)) Q (by
    iintro ⟨#Hctx, HF, HaB, Hidle, Hbufs, HQ⟩
    iapply (Entails.of_eq (ret_run c Q))
    imod (end_end P κ h) $$ [HF HaB Hidle Hbufs] with Hpost
    · isplitr; · iexact Hctx
      isplitl [HF]; · iexact HF
      isplitl [HaB]; · iexact HaB
      isplitl [Hidle]; · iexact Hidle
      iexact Hbufs
    imodintro
    iapply HQ; iexact Hpost))
  isplitr; · iexact Hctx
  isplitl [HO Hp Hrecv Ht0 Hr0 Ht1]
  · unfold stE
    rw [upTo_zero]
    unfold sendNeed
    simp only [bigSep_sep']
    isplitl [HO]; · iexact HO
    isplitl [Hp]; · iexact Hp
    isplitl [Hrecv]; · iexact Hrecv
    isplitl [Ht0]; · iexact Ht0
    isplitl [Hr0]; · iexact Hr0
    iexact Ht1
  isplitl [Ha5 Hc5 Ha0]
  · unfold takeNeed
    rw [bigSep_sep']
    isplitl [Ha5 Hc5]
    · isplitl [Ha5]; · iexact Ha5
      iexact Hc5
    iexact Ha0
  isplitl [HaB]; · iexact HaB
  isplitl [Ha1 Ha2 Ha3 Ha4]
  · isplitl [Ha1]; · iexact Ha1
    isplitl [Ha2]; · iexact Ha2
    isplitl [Ha3]; · iexact Ha3
    iexact Ha4
  isplitl [Hbufs]; · iexact Hbufs
  iexact HQ

/-- The body on any device. -/
theorem body_rule (κ : GSem nD τ sig → ℕ) (c : Dev nD) (Q : PUnit → sProp 𝕄) :
    iprop(ctx P κ ∗ bodyPre P c ∗ (bodyPost P c -∗ Q ⟨⟩)) ⊢ run c (body (F := F)) Q := by
  by_cases h : Mid c
  · exact body_mid_rule P κ h Q
  · exact body_end_rule P κ h Q

end Cert.KernelIdeal.Line

end
-- ==== Proof.Region.lean ====
/-
  The kernel's region: entered with the positions and rights dealt at launch, its counters opened on the way in, and
  left with the result written and every counter at zero.
-/
module

public import proofs.«01_k».proof.Proof.Body
public import Idealize.ShloMosaic.Lib.Pipeline.RegionTalk
public import proofs.«01_k».proof.Proof.Gen.KernelIdeal.Regions

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.Pipeline (Dat BodyObligation)

variable {F : FTy → Type} [FloatOps F]

local notation "𝕄" => MT nD τ sig Unit (Elt F) ℕ UU ℕ

/-- The kernel's own counters, family by family. -/
abbrev osem (x : Fin 6 × Fin 8) : SemLoc sig := .dma (dS x.1 x.2)

theorem ownSems_eq (c : Dev nD) : (Pipeline.ownSems0 osem c : sProp 𝕄) = fam fun j k => semVal (cell c j k) 0 := rfl

variable (P : Dev nD → Vec F S512x512 .f32)

/-! ## Dealt at launch, opened on entry -/

/-- What each device keeps from launch to its region. -/
def dealt (c : Dev nD) : sProp 𝕄 :=
  iprop(∃ κ, ctx P κ ∗ atPos ER (barCell c) 0 ∅ 0 ∗ fam (fun j k => openTok ER (cell c j k)) ∗ rights (F := F) c ∗ credits (F := F) c)
/-- The same with its own counters open. -/
def entered (c : Dev nD) : sProp 𝕄 :=
  iprop(∃ κ, ctx P κ ∗ opened (F := F) c ∗ rights (F := F) c ∗ credits (F := F) c)

theorem open_cell (κ : GSem nD τ sig → ℕ) (c : Dev nD) (x : Fin 6 × Fin 8) :
    iprop(ctx P κ ∗ openTok ER (cell c x.1 x.2) ∗ semVal (cell c x.1 x.2) 0)
      ⊢ (|={Set.univ}=> iprop(atPos ER (cell c x.1 x.2) 0 ∅ 0 ∗ reached ER (cell c x.1 x.2) 0) : sProp 𝕄) := by
  have hin := ctx_cell P κ c x.1 x.2
  iintro ⟨Hctx, Ho, Hv⟩
  ihave #HI := hin $$ Hctx
  imod (Rounds.cell_open ER (Rd P) (g := cell c x.1 x.2) (Set.mem_univ (κ (cell c x.1 x.2)))) $$ [Ho Hv] with ⟨Hat, #Hr⟩
  · isplitr; · iexact HI
    isplitl [Ho]; · iexact Ho
    iexact Hv
  imodintro
  isplitl [Hat]; · iexact Hat
  iexact Hr

theorem open_cells (κ : GSem nD τ sig → ℕ) (c : Dev nD) :
    iprop(ctx P κ ∗ (fam (fun j k => openTok ER (cell c j k)) ∗ fam fun j k => semVal (cell c j k) 0))
      ⊢ (|={Set.univ}=> iprop(fam (fun j k => atPos ER (cell c j k) 0 ∅ 0) ∗ fam fun j k => reached ER (cell c j k) 0) : sProp 𝕄) := by
  have each := (bigSep_with_persistent (S := Finset.univ) fun x _ => open_cell P κ c x).trans (bigSep_fupd _ _)
  rw [bigSep_sep', bigSep_sep'] at each
  exact each

theorem open_on_entry (c : Dev nD) : iprop(dealt P c ∗ Pipeline.ownSems0 osem c ∗ levAts L lv) ⊢ (|={Set.univ}=> entered P c : sProp 𝕄) := by
  rw [ownSems_eq]
  unfold dealt entered opened
  iintro ⟨⟨%κ, #Hctx, HaB, Ho, Hr, Hc⟩, Hv, -⟩
  imod (open_cells P κ c) $$ [Ho Hv] with ⟨Hat, Hre⟩
  · isplitr; · iexact Hctx
    isplitl [Ho]; · iexact Ho
    iexact Hv
  imodintro
  iexists κ
  isplitr; · iexact Hctx
  isplitl [HaB Hat Hre]
  · isplitl [HaB]; · iexact HaB
    isplitl [Hat]; · iexact Hat
    iexact Hre
  isplitl [Hr]; · iexact Hr
  iexact Hc

/-! ## The proof data -/

/-- The scratch buffers, at contents not named. -/
def scratch (c : Dev nD) : sProp 𝕄 :=
  iprop((∃ f, wholeS (F := F) bM c fullShare f) ∗ (∃ f, wholeS (F := F) sM c fullShare f) ∗ (∃ f, wholeS (F := F) mM c fullShare f))

theorem scratch_eq (c : Dev nD) : (Pipeline.scopedRest spec0 c : sProp 𝕄) = scratch (F := F) c := by
  rw [scopedRest0_eq]
  unfold scratch wholeS
  simp only [Memref.view_whole, View.set_whole]

def before (c : Dev nD) : sProp 𝕄 := iprop(entered P c ∗ scratch (F := F) c ∗ ∃ r, prngReg c r)
def after (c : Dev nD) : sProp 𝕄 :=
  iprop((semVal (barCell c) 0 ∗ fam fun j k => semVal (cell c j k) 0) ∗ scratch (F := F) c ∗ ∃ r, prngReg c r)

variable (B : (c : Dev nD) → Buf (Elt F) ((c : Thread nD τ).loc main_v17))

/-- The region's data: the partial sums `P` in, `B` where the result goes. -/
def datOf (c : Dev nD) : Dat τ (Elt F) Unit ℕ UU ℕ cfg0 c where
  A w := match w with
    | ⟨0, _⟩ => P c
    | ⟨1, _⟩ => B c
  after w _ := match w with
    | ⟨0, _⟩ => P c
    | ⟨1, _⟩ => outP P c
  Φ t := if t.val = 0 then before P c else after (F := F) c
  q _ := fullShare
  owed t := if t.val = 0 then O₀ c else 0

theorem owed_zero (c : Dev nD) : (datOf P B c).owed 0 = O₀ c := by
  show (if (0 : Fin (cfg0.N + 1)).val = 0 then O₀ c else 0) = O₀ c; exact if_pos rfl
theorem owed_first (c : Dev nD) : (datOf P B c).owed (Fin.castSucc (n := cfg0.N) t0_0) = O₀ c := by
  show (if (Fin.castSucc (n := cfg0.N) t0_0).val = 0 then O₀ c else 0) = O₀ c; exact if_pos rfl
theorem owed_second (c : Dev nD) : (datOf P B c).owed (Fin.succ (n := cfg0.N) t0_0) = 0 := by
  show (if (Fin.succ (n := cfg0.N) t0_0).val = 0 then O₀ c else 0) = 0; exact if_neg (Nat.succ_ne_zero _)
theorem owed_last (c : Dev nD) : (datOf P B c).owed (Fin.last _) = 0 := by
  show (if (Fin.last cfg0.N).val = 0 then O₀ c else 0) = 0
  rw [Fin.val_last, if_neg (by rw [show cfg0.N = 1 from N_0]; decide)]

theorem inv_first (c : Dev nD) : (datOf P B c).Φ (Fin.castSucc (n := cfg0.N) t0_0) = before P c := by
  show (if (Fin.castSucc (n := cfg0.N) t0_0).val = 0 then before P c else after (F := F) c) = before P c; exact if_pos rfl
theorem inv_second (c : Dev nD) : (datOf P B c).Φ (Fin.succ (n := cfg0.N) t0_0) = after (F := F) c := by
  show (if (Fin.succ (n := cfg0.N) t0_0).val = 0 then before P c else after (F := F) c) = after (F := F) c; exact if_neg (Nat.succ_ne_zero _)

/-- A buffer owned at named contents, and its points-to. -/
theorem owns_elim (c : Dev nD) (b : Ref sig .tc) (X : b.ty.Contents (Elt F)) :
    (owns (c : Thread nD τ) (Memref.whole b) fullShare X : sProp 𝕄) ⊢ (c : Thread nD τ).loc b ↦{fullShare} X := by
  have h : iprop(∃ f : Buf (Elt F) ((c : Thread nD τ).loc b), ⌜f = X⌝ ∗ (c : Thread nD τ).loc b ↦{fullShare} f) ⊢ ((c : Thread nD τ).loc b ↦{fullShare} X : sProp 𝕄) := by
    iintro ⟨%f, %h, H⟩
    subst h
    iexact H
  unfold owns
  simp only [Memref.view_whole, View.read_whole, View.set_whole]
  exact h
theorem owns_intro (c : Dev nD) (b : Ref sig .tc) (X : b.ty.Contents (Elt F)) :
    ((c : Thread nD τ).loc b ↦{fullShare} X : sProp 𝕄) ⊢ owns (c : Thread nD τ) (Memref.whole b) fullShare X := by
  have h : ((c : Thread nD τ).loc b ↦{fullShare} X : sProp 𝕄) ⊢ iprop(∃ f : Buf (Elt F) ((c : Thread nD τ).loc b), ⌜f = X⌝ ∗ (c : Thread nD τ).loc b ↦{fullShare} f) := by
    iintro H
    iexists X
    isplitr; · ipureintro; rfl
    iexact H
  unfold owns
  simp only [Memref.view_whole, View.read_whole, View.set_whole]
  exact h

theorem fetched (c : Dev nD) (d) : (datOf P B c).before (0 : Fin 2) (t0_0 : Fin cfg0.N) d = P c := by
  unfold Dat.before
  rw [if_pos (fetch0_0 t0_0)]
  have hz : (fun a => (win0_0.index t0_0) a * main_v16.ty.shape.size a) = fun _ => 0 :=
    funext fun a => by fin_cases a <;> decide
  exact Memref.read_access_unit_zero (Elt F) main_v16 hz (fun a => by fin_cases a <;> decide) (P c)

/-- The body between the staging buffers as the region hands and wants them. -/
theorem body_staged (c : Dev nD) :
    iprop(before P c ∗ (datOf P B c).owesAt () (Fin.castSucc (n := cfg0.N) t0_0)
        ∗ (∃ d, owns (c : Thread nD τ) (Memref.whole cc0_stg0_0) fullShare ((datOf P B c).before (0 : Fin 2) (t0_0 : Fin cfg0.N) d))
        ∗ (∃ d, owns (c : Thread nD τ) (Memref.whole cc0_stg1_0) fullShare ((datOf P B c).before (1 : Fin 2) (t0_0 : Fin cfg0.N) d)))
      ⊢ run c (body (F := F)) fun _ => iprop(after (F := F) c ∗ (datOf P B c).owesAt () (Fin.succ (n := cfg0.N) t0_0)
          ∗ owns (c : Thread nD τ) (Memref.whole cc0_stg0_0) fullShare (P c)
          ∗ owns (c : Thread nD τ) (Memref.whole cc0_stg1_0) fullShare (outP P c)) := by
  simp only [fetched]
  unfold before entered scratch Dat.owesAt Pipeline.owesWithin
  rw [owed_first, owed_second]
  iintro ⟨⟨⟨%κ, #Hctx, Hop, Hr, Hc⟩, ⟨Hb, Hs, Hm⟩, Hp⟩, ⟨%W, -, HO⟩, ⟨%d0, Hx⟩, ⟨%d1, Hy⟩⟩
  ihave Hx := (owns_elim c cc0_stg0_0 (P c)) $$ Hx
  ihave Hy := (owns_elim c cc0_stg1_0 _) $$ Hy
  iapply (body_rule P κ c _)
  isplitr; · iexact Hctx
  unfold bodyPre bodyPost after scratch owing wholeR
  simp only [Memref.view_whole, View.set_whole]
  isplitl [HO Hop Hr Hc Hx Hy Hb Hs Hm]
  · isplitl [HO]; · iexists W; iexact HO
    isplitl [Hop]; · iexact Hop
    isplitl [Hr]; · iexact Hr
    isplitl [Hc]; · iexact Hc
    isplitl [Hx]; · iexact Hx
    isplitl [Hy]; · iexists _; iexact Hy
    isplitl [Hb]; · iexact Hb
    isplitl [Hs]; · iexact Hs
    iexact Hm
  iintro ⟨⟨%W', HO⟩, Hv, Hx, Hy, Hbufs⟩
  isplitl [Hv Hbufs Hp]
  · isplitl [Hv]; · iexact Hv
    isplitl [Hbufs]; · iexact Hbufs
    iexact Hp
  isplitl [HO]
  · iexists W'
    isplitr; · ipureintro; exact fun _ _ => Or.inl trivial
    iexact HO
  isplitl [Hx]
  · iapply (owns_intro c cc0_stg0_0 (P c)); iexact Hx
  iapply (owns_intro c cc0_stg1_0 (outP P c)); iexact Hy

theorem body_ok (c : Dev nD) : BodyObligation (datOf P B c) defs₀ 𝒱₀ () Set.univ := fun t => by
  rw [fin_N0 t, bigSep_W0, bigSep_W0, inv_first, inv_second]
  exact body_staged P B c

end Cert.KernelIdeal.Line

end
-- ==== Proof.Record.lean ====
/-
  The kernel's region as a record: what it is entered from and what it leaves, over any contents of the buffers.
-/
module

public import proofs.«01_k».proof.Proof.Region

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.Pipeline (Dat BodyObligation)

variable {F : FTy → Type} [FloatOps F]

local notation "𝕄" => MT nD τ sig Unit (Elt F) ℕ UU ℕ

/-! ## What is owed at launch, cell by cell -/

theorem O₀_pos {c : Dev nD} {g : GSem nD τ sig} {u : Unit} (h : 0 < O₀ c g u) :
    (∃ d, g = barCell d) ∨ ∃ (d : Dev nD) (j : Fin 6) (k : Fin 8), g = cell d j k ∧ (j.val = 1 ∨ j.val = 3 ∨ j.val = 5) := by
  have bar (d : Dev nD) (h : 0 < (tallyAt (barCell d) () 1 : CellTallies nD τ sig Unit) g u) : g = barCell d := by
    rw [tallyAt_apply] at h
    by_contra hx
    rw [if_neg (fun e => hx e.1)] at h
    exact absurd h (Nat.lt_irrefl 0)
  have h : 0 < (tallyAt (barCell (near c)) () 1 : CellTallies nD τ sig Unit) g u + (if Mid c then tallyAt (barCell (across c)) () 1 + dueM c 0 0 else dueE c 0 : CellTallies nD τ sig Unit) g u := h
  rcases Nat.add_pos_iff_pos_or_pos.mp h with h | h
  · exact .inl ⟨_, bar _ h⟩
  split at h
  · have h : 0 < (tallyAt (barCell (across c)) () 1 : CellTallies nD τ sig Unit) g u + dueM c 0 0 g u := h
    rcases Nat.add_pos_iff_pos_or_pos.mp h with h | h
    · exact .inl ⟨_, bar _ h⟩
    · rcases dueM_pos h with ⟨k, -, e⟩ | ⟨k, -, e⟩
      · exact .inr ⟨_, 3, k, e, .inr (.inl rfl)⟩
      · exact .inr ⟨_, 5, k, e, .inr (.inr rfl)⟩
  · obtain ⟨k, -, e⟩ := due_pos _ _ _ _ h
    exact .inr ⟨_, 1, k, e, .inl rfl⟩

/-- All of it lies above the staging buffers' own counters. -/
theorem O₀_above {c : Dev nD} {g : GSem nD τ sig} {u : Unit} (h : 0 < O₀ c g u) : u ∈ L g ∧ 0 < lv g u := by
  rcases O₀_pos h with ⟨d, rfl⟩ | ⟨d, j, k, rfl, hj⟩
  · exact ⟨by rw [L_tc]; exact Finset.mem_singleton_self _, Nat.one_pos⟩
  · refine ⟨by rw [L_tc]; exact Finset.mem_singleton_self _, ?_⟩
    rw [show u = () from rfl, lv_cell]
    rcases hj with e | e | e <;> rw [e] <;> simp

variable (W : Dev nD → Valuation τ sig (Elt F))

/-- The partial sums the region finds. -/
abbrev partOf (c : Dev nD) : Vec F S512x512 .f32 := W c main_v16
/-- The buffers after it: the result in place, the others as they were. -/
abbrev leftBy (c : Dev nD) : Valuation τ sig (Elt F) := Function.update (W c) main_v17 (outP (partOf W) c)

def pdats (_ : Fin 1) (c : Dev nD) : Dat τ (Elt F) Unit ℕ UU ℕ cfg0 c := datOf (partOf W) (fun c => W c main_v17) c

/-- What the talk leaves with a device: its barrier's counter at zero. -/
def kept (c : Dev nD) : sProp 𝕄 := semVal (barCell c) 0

theorem held_none (c : Dev nD) (V : Valuation τ sig (Elt F)) : (StableHlo.held (c.tc : Thread nD τ) ∅ V : sProp 𝕄) = BI.emp := by
  unfold StableHlo.held; exact BI.bigSep_empty

theorem enter (c : Dev nD) : iprop(Pipeline.scopedRest spec0 c ∗ (∃ r, prngReg c r) ∗ StableHlo.held (c.tc : Thread nD τ) ∅ (W c) ∗ entered (partOf W) c)
    ⊢ (before (partOf W) c : sProp 𝕄) := by
  unfold before
  rw [scratch_eq]
  iintro ⟨Hs, Hp, -, He⟩
  isplitl [He]; · iexact He
  isplitl [Hs]; · iexact Hs
  iexact Hp

theorem leave (c : Dev nD) : (after (F := F) c : sProp 𝕄)
    ⊢ iprop(Pipeline.scopedRest spec0 c ∗ (∃ r, prngReg c r) ∗ StableHlo.held (c.tc : Thread nD τ) ∅ (leftBy W c) ∗ Pipeline.ownSems0 osem c ∗ kept (F := F) c) := by
  unfold after kept
  rw [scratch_eq, held_none, ownSems_eq]
  iintro ⟨⟨Hb, Hv⟩, Hs, Hp⟩
  isplitl [Hs]; · iexact Hs
  isplitl [Hp]; · iexact Hp
  isplitr; · iempintro
  isplitl [Hv]; · iexact Hv
  iexact Hb

theorem arr_first (c : Dev nD) (w : Fin 2) : (pdats W 0 c).arrAt w 0 = W c (Proc.devRef .tc (Pipeline.arrRef spec0 w)) := by
  fin_cases w <;> rfl

theorem arr_last (c : Dev nD) (w : Fin 2) : (pdats W 0 c).arrAt w cfg0.N = leftBy W c (Proc.devRef .tc (Pipeline.arrRef spec0 w)) := by
  fin_cases w
  · refine ((pdats W 0 c).arrAt_in (0 : Fin 2) rfl _).trans ?_
    exact (Function.update_of_ne (StableHlo.devRef_ne_of_ne (by decide)) _ _).symm
  · refine Eq.trans ?_ (Function.update_self (Proc.devRef .tc main_v17 : DevRef τ sig) (outP (partOf W) c) (W c)).symm
    have hz : (fun a => (win0_1.index t0_0) a * main_v17.ty.shape.size a) = fun _ => 0 :=
      funext fun a => by fin_cases a <;> decide
    rw [show cfg0.N = t0_0.val + 1 from N_0, Dat.arrAt_succ, if_pos (flush0_1 _)]
    exact Memref.write_access_unit_zero_univ (Elt F) main_v17 hz (fun a => by fin_cases a <;> decide) _ _

theorem kit0 : Pipeline.PLaunchFacts (nD := nD) (τ := τ) (pcfgs (F := F)) 0 := launch0.toP

set_option backward.isDefEq.respectTransparency.types false in
/-- The region's record. -/
def region : Pipeline.RegionSeg (pcfgs (F := F)) adm (pdats W) () defs₀ 𝒱₀ L lv 0 :=
  Pipeline.RegionSeg.ofTalk (pcfgs (F := F)) adm (pdats W) () defs₀ 𝒱₀ L lv 0 osem (by decide : Pipeline.OwnSemFacts spec0 osem)
    ∅ (Pipeline.ucRefs τ sig \ Pipeline.arrRefs (τ := τ) spec0) (Finset.empty_subset _) kit0 rfl (fun c => (body_ok (partOf W) (fun c => W c main_v17) c).loose)
    (fun _ => 0) O₀ (fun c => (owed_zero _ _ c).trans (zero_add _).symm) (fun c => owed_last _ _ c) (fun _ => rfl)
    (fun c w => by unfold Dat.share; split <;> rfl)
    W (leftBy W) (fun c b hb => Function.update_of_ne (fun e => by
      subst e
      exact (Finset.mem_sdiff.mp (Finset.mem_sdiff.mp hb).1).2 (by decide)) _ _)
    (dealt (partOf W)) (kept (F := F)) (entered (partOf W)) (kept (F := F))
    (open_on_entry (partOf W)) (enter W) (leave W)
    (fun c => by iintro H; imodintro; iexact H)
    (fun _ => 0)
    ⟨fun c w s => by rw [L_tc]; exact Finset.mem_singleton_self _, fun c w s => by fin_cases w <;> fin_cases s <;> exact le_of_eq rfl,
      fun c t g i h => by
        have e : (pdats W 0 c).owed t = if t.val = 0 then O₀ c else 0 := rfl
        rw [e] at h
        split at h
        · exact O₀_above h
        · exact absurd h (Nat.lt_irrefl 0)⟩
    (fun _ => iprop(emp))
    (arr_first W) (arr_last W)

/-- What rides beside the buffers until the region, and after it. -/
def riding (P : Dev nD → Vec F S512x512 .f32) (c : Dev nD) : sProp 𝕄 :=
  iprop(dealt P c ∗ (∃ r, prngReg c r) ∗ ∃ Wd, owes (c : Thread nD τ) (O₀ c) Wd)
def ridden (c : Dev nD) : sProp 𝕄 :=
  iprop(semVal (barCell c) 0 ∗ ∃ Wd, owes (c : Thread nD τ) (0 : CellTallies nD τ sig Unit) Wd)

theorem arrs_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (W c) ∗ riding (partOf W) c) ⊢ (region W).pre c := by
  show _ ⊢ iprop(StableHlo.held (c.tc : Thread nD τ) (Pipeline.arrRefs (τ := τ) spec0) (W c) ∗ (∃ r, prngReg c r)
    ∗ (StableHlo.held (c.tc : Thread nD τ) (Pipeline.ucRefs τ sig \ Pipeline.arrRefs (τ := τ) spec0) (W c) ∗ emp)
    ∗ dealt (partOf W) c ∗ ∃ Wd, owes (c : Thread nD τ) (0 + O₀ c) Wd)
  rw [StableHlo.held_sub_split (c.tc : Thread nD τ) arrs_sub (W c), zero_add]
  unfold riding
  iintro ⟨⟨Ha, Hr⟩, Hd, Hp, HO⟩
  isplitl [Ha]; · iexact Ha
  isplitl [Hp]; · iexact Hp
  isplitl [Hr]
  · isplitl [Hr]; · iexact Hr
    iempintro
  isplitl [Hd]; · iexact Hd
  iexact HO

theorem region_post (c : Dev nD) : (region W).post c ⊢ iprop(StableHlo.held (c : Thread nD τ) (Pipeline.ucRefs τ sig) (leftBy W c) ∗ ridden (F := F) c) := by
  show iprop(StableHlo.held (c.tc : Thread nD τ) (Pipeline.arrRefs (τ := τ) spec0) (leftBy W c) ∗ (∃ r, prngReg c r)
    ∗ (StableHlo.held (c.tc : Thread nD τ) (Pipeline.ucRefs τ sig \ Pipeline.arrRefs (τ := τ) spec0) (leftBy W c) ∗ emp)
    ∗ kept (F := F) c ∗ ∃ Wd, owes (c : Thread nD τ) (0 : CellTallies nD τ sig Unit) Wd) ⊢ _
  rw [StableHlo.held_sub_split (c.tc : Thread nD τ) arrs_sub (leftBy W c)]
  unfold kept ridden
  iintro ⟨Ha, -, ⟨Hr, -⟩, Hb, HO⟩
  isplitl [Ha Hr]
  · isplitl [Ha]; · iexact Ha
    iexact Hr
  isplitl [Hb]; · iexact Hb
  iexact HO

end Cert.KernelIdeal.Line

end
-- ==== Proof.Launch.lean ====
/-
  The launch: every counter's invariant allocated, and each device dealt its positions, the duties it pays and the
  credit its waits use.
-/
module

public import proofs.«01_k».proof.Proof.Record

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The credit -/

theorem barCell_inj {c d : Dev nD} (h : barCell c = barCell d) : c = d := congrArg (fun g : GSem nD τ sig => g.1.1) h
theorem cell_inj {c d : Dev nD} {j j' : Fin 6} {k k' : Fin 8} (h : cell c j k = cell d j' k') : c = d ∧ j = j' ∧ k = k' := by
  have hs : SemLoc.dma (dS j k) = SemLoc.dma (dS j' k') := congrArg Prod.snd h
  exact ⟨congrArg (fun g : GSem nD τ sig => g.1.1) h, dS_inj (SemLoc.dma.inj hs)⟩
theorem bar_ne_cell (c d : Dev nD) (j : Fin 6) (k : Fin 8) : barCell c ≠ cell d j k :=
  fun h => by have e : SemLoc.reg barS = SemLoc.dma (dS j k) := congrArg Prod.snd h; cases e

theorem bar_at_bar (d c : Dev nD) : (tallyAt (barCell d) () 1 : CellTallies nD τ sig Unit) (barCell c) () = if d = c then 1 else 0 := by
  rw [tallyAt_apply]
  by_cases h : d = c
  · rw [if_pos h, if_pos ⟨by rw [h], rfl⟩]
  · rw [if_neg h, if_neg fun e => h (barCell_inj e.1).symm]
theorem bar_at_cell (d c : Dev nD) (j : Fin 6) (k : Fin 8) : (tallyAt (barCell d) () 1 : CellTallies nD τ sig Unit) (cell c j k) () = 0 := by
  rw [tallyAt_apply, if_neg fun e => bar_ne_cell _ _ _ _ e.1.symm]
theorem due_at_bar (d c : Dev nD) (i : Fin 6) : due (fun k => cell d i k) 0 (barCell c) () = 0 := by
  rw [due_apply]
  exact Finset.sum_eq_zero fun k _ => by rw [tallyAt_apply, if_neg fun e => bar_ne_cell _ _ _ _ e.1]
theorem due_at_cell (d c : Dev nD) (i j : Fin 6) (k : Fin 8) : due (fun k => cell d i k) 0 (cell c j k) () = if d = c ∧ i = j then N else 0 := by
  rw [due_apply, Finset.sum_eq_single k]
  · rw [tallyAt_apply]
    by_cases h : d = c ∧ i = j
    · rw [if_pos h, if_pos ⟨by rw [h.1, h.2], rfl⟩]
    · rw [if_neg h, if_neg fun e => h ⟨(cell_inj e.1).1.symm, (cell_inj e.1).2.1.symm⟩]
  · intro k' _ hk
    rw [tallyAt_apply, if_neg fun e => hk (cell_inj e.1).2.2.symm]
  · intro h
    exact absurd (Finset.mem_filter.mpr ⟨Finset.mem_univ k, Nat.zero_le _⟩) h

/-- What device `d` owes at a cell, by its kind. -/
theorem O₀_mid {d : Dev nD} (h : Mid d) (g : GSem nD τ sig) : O₀ d g ()
    = (tallyAt (barCell (near d)) () 1 : CellTallies nD τ sig Unit) g () + ((tallyAt (barCell (across d)) () 1 : CellTallies nD τ sig Unit) g ()
      + (due (fun k => cell (across d) 3 k) 0 g () + due (fun k => cell (near d) 5 k) 0 g ())) := by
  unfold O₀; rw [if_pos h]; rfl
theorem O₀_end {d : Dev nD} (h : ¬ Mid d) (g : GSem nD τ sig) : O₀ d g ()
    = (tallyAt (barCell (near d)) () 1 : CellTallies nD τ sig Unit) g () + due (fun k => cell (near d) 1 k) 0 g () := by
  unfold O₀; rw [if_neg h]; rfl

theorem near_eq {d c : Dev nD} : near d = c ↔ d = near c :=
  ⟨fun h => by rw [← h, near_near], fun h => by rw [h, near_near]⟩
theorem across_eq {d c : Dev nD} : across d = c ↔ d = across c :=
  ⟨fun h => by rw [← h, across_across], fun h => by rw [h, across_across]⟩

theorem owed_bar_mid {c : Dev nD} (h : Mid c) (d : Dev nD) : O₀ d (barCell c) () = (if d = near c then 1 else 0) + if d = across c then 1 else 0 := by
  by_cases hd : Mid d
  · rw [O₀_mid hd, bar_at_bar, bar_at_bar, due_at_bar, due_at_bar]
    simp only [near_eq, across_eq, Nat.add_zero]
  · rw [O₀_end hd, bar_at_bar, due_at_bar, if_neg (show ¬ d = across c from fun e => hd (e ▸ mid_of_across h))]
    simp only [near_eq]
theorem owed_bar_end {c : Dev nD} (h : ¬ Mid c) (d : Dev nD) : O₀ d (barCell c) () = if d = near c then 1 else 0 := by
  by_cases hd : Mid d
  · rw [O₀_mid hd, bar_at_bar, bar_at_bar, due_at_bar, due_at_bar]
    simp only [near_eq, across_eq, Nat.add_zero]
    rw [if_neg (show ¬ d = across c from fun e => h ((mid_across c).mp (e ▸ hd))), Nat.add_zero]
  · rw [O₀_end hd, bar_at_bar, due_at_bar]
    simp only [near_eq, Nat.add_zero]
theorem owed_recv {c : Dev nD} (h : Mid c) (k : Fin 8) (d : Dev nD) : O₀ d (cell c 1 k) () = if d = near c then N else 0 := by
  by_cases hd : Mid d
  · rw [O₀_mid hd, bar_at_cell, bar_at_cell, due_at_cell, due_at_cell, if_neg (fun e => absurd e.2 (by decide)), if_neg (fun e => absurd e.2 (by decide)),
      if_neg (show ¬ d = near c from fun e => ((mid_near c).mp (e ▸ hd)) h)]
  · rw [O₀_end hd, bar_at_cell, due_at_cell, Nat.zero_add]
    simp only [near_eq, and_true]
theorem owed_swap {c : Dev nD} (h : Mid c) (k : Fin 8) (d : Dev nD) : O₀ d (cell c 3 k) () = if d = across c then N else 0 := by
  by_cases hd : Mid d
  · rw [O₀_mid hd, bar_at_cell, bar_at_cell, due_at_cell, due_at_cell, if_neg (show ¬ (near d = c ∧ (5 : Fin 6) = 3) from fun e => absurd e.2 (by decide))]
    simp only [across_eq, and_true, Nat.zero_add, Nat.add_zero]
  · rw [O₀_end hd, bar_at_cell, due_at_cell, if_neg (fun e => absurd e.2 (by decide)), if_neg (show ¬ d = across c from fun e => hd (e ▸ mid_of_across h))]
theorem owed_out {c : Dev nD} (h : ¬ Mid c) (k : Fin 8) (d : Dev nD) : O₀ d (cell c 5 k) () = if d = near c then N else 0 := by
  by_cases hd : Mid d
  · rw [O₀_mid hd, bar_at_cell, bar_at_cell, due_at_cell, due_at_cell, if_neg (show ¬ (across d = c ∧ (3 : Fin 6) = 5) from fun e => absurd e.2 (by decide))]
    simp only [near_eq, and_true, Nat.zero_add]
  · rw [O₀_end hd, bar_at_cell, due_at_cell, if_neg (fun e => absurd e.2 (by decide)), if_neg (show ¬ d = near c from fun e => hd (e ▸ (mid_near c).mpr h))]

/-- A cell's launch credit is what all devices owe it. -/
theorem launch_at (g : GSem nD τ sig) (c : Dev nD) (sm : SemLoc sig) (hg : g = ((c : Thread nD τ), sm)) (n : ℕ) (h : ∑ d : Dev nD, O₀ d g () = n) :
    tallyOn g (launchCredit (Pipeline.owing O₀) 0 g) = (tallyAt g () n : CellTallies nD τ sig Unit) := by
  subst hg
  unfold tallyAt; refine congrArg _ (Finsupp.ext fun u => ?_); cases u
  rw [Pipeline.launchCredit_owing, Finsupp.single_eq_same, h]

theorem sum_one (e : Dev nD) (n : ℕ) : (∑ d : Dev nD, if d = e then n else 0) = n := by
  rw [Finset.sum_ite_eq' Finset.univ e fun _ => n, if_pos (Finset.mem_univ _)]

theorem credit_bar_mid {c : Dev nD} (h : Mid c) : ∑ d : Dev nD, O₀ d (barCell c) () = 2 := by
  rw [Finset.sum_congr rfl fun d _ => owed_bar_mid h d, Finset.sum_add_distrib, sum_one, sum_one]
theorem credit_bar_end {c : Dev nD} (h : ¬ Mid c) : ∑ d : Dev nD, O₀ d (barCell c) () = 1 := by
  rw [Finset.sum_congr rfl fun d _ => owed_bar_end h d, sum_one]
theorem credit_recv {c : Dev nD} (h : Mid c) (k : Fin 8) : ∑ d : Dev nD, O₀ d (cell c 1 k) () = N := by
  rw [Finset.sum_congr rfl fun d _ => owed_recv h k d, sum_one]
theorem credit_swap {c : Dev nD} (h : Mid c) (k : Fin 8) : ∑ d : Dev nD, O₀ d (cell c 3 k) () = N := by
  rw [Finset.sum_congr rfl fun d _ => owed_swap h k d, sum_one]
theorem credit_out {c : Dev nD} (h : ¬ Mid c) (k : Fin 8) : ∑ d : Dev nD, O₀ d (cell c 5 k) () = N := by
  rw [Finset.sum_congr rfl fun d _ => owed_out h k d, sum_one]

def osemEmb : Fin 6 × Fin 8 ↪ SemLoc sig := ⟨osem, fun a b h => Prod.ext (dS_inj (SemLoc.dma.inj h)).1 (dS_inj (SemLoc.dma.inj h)).2⟩

theorem own_ne_bar (x : Fin 6 × Fin 8) : osemEmb x ≠ SemLoc.reg barS := fun h => by
  have e : SemLoc.dma (dS x.1 x.2) = SemLoc.reg barS := h
  cases e

/-- The launch's credit of a device: its barrier's and its own counters'. -/
theorem launch_split (c : Dev nD) : (Pipeline.launchCred O₀ c : sProp 𝕄)
    ⊢ iprop(cred (tallyOn (barCell c) (launchCredit (Pipeline.owing O₀) 0 (barCell c)))
        ∗ fam fun j k => cred (tallyOn (cell c j k) (launchCredit (Pipeline.owing O₀) 0 (cell c j k)))) := by
  unfold Pipeline.launchCred fam
  rw [bigSep_univ_at _ (SemLoc.reg barS)]
  refine sep_mono_right ((BI.bigSep_subset (t := Finset.univ.map osemEmb) fun s hs => ?_).trans (Entails.of_eq (bigSep_map osemEmb)))
  obtain ⟨x, -, rfl⟩ := Finset.mem_map.mp hs
  exact Finset.mem_erase.mpr ⟨fun h => own_ne_bar x h, Finset.mem_univ _⟩

theorem launch_credits (c : Dev nD) : (Pipeline.launchCred O₀ c : sProp 𝕄) ⊢ credits c := by
  refine (launch_split c).trans ?_
  rw [fam_eq]
  unfold credits
  by_cases h : Mid c
  · rw [if_pos h, launch_at (barCell c) c _ rfl 2 (credit_bar_mid h),
      bigSep_congr (fun k _ => congrArg cred (launch_at (cell c 1 k) c _ rfl N (credit_recv h k))),
      bigSep_congr (fun k _ => congrArg cred (launch_at (cell c 3 k) c _ rfl N (credit_swap h k)))]
    iintro ⟨Hb, -, H1, -, H3, -, -⟩
    isplitl [Hb]; · iexact Hb
    isplitl [H1]; · iexact H1
    iexact H3
  · rw [if_neg h, launch_at (barCell c) c _ rfl 1 (credit_bar_end h),
      bigSep_congr (fun k _ => congrArg cred (launch_at (cell c 5 k) c _ rfl N (credit_out h k)))]
    iintro ⟨Hb, -, -, -, -, -, H5⟩
    isplitl [Hb]; · iexact Hb
    iexact H5

/-! ## The counters and the duties' tokens -/

def barEmb : Dev nD ↪ GSem nD τ sig := ⟨fun c => barCell c, fun _ _ h => barCell_inj h⟩
def ownEmb : Dev nD × Fin 6 × Fin 8 ↪ GSem nD τ sig :=
  ⟨fun x => cell x.1 x.2.1 x.2.2, fun a b h => Prod.ext (cell_inj h).1 (Prod.ext (cell_inj h).2.1 (cell_inj h).2.2)⟩

abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨x, -, h⟩ := Finset.mem_map.mp h₂
  exact bar_ne_cell _ _ _ _ h.symm

def barTokEmb : Dev nD × Bool ↪ GSem nD τ sig × ℕ × Bool :=
  ⟨fun x => (barCell x.1, 0, x.2), fun a b h => Prod.ext (barCell_inj (congrArg Prod.fst h)) (congrArg (fun t : GSem nD τ sig × ℕ × Bool => t.2.2) h)⟩
def ownTokEmb : Dev nD × Fin 6 × Fin 8 ↪ GSem nD τ sig × ℕ × Bool :=
  ⟨fun x => (cell x.1 x.2.1 x.2.2, 0, false), fun a b h => ownEmb.injective (congrArg Prod.fst h)⟩

abbrev barToks : Finset (GSem nD τ sig × ℕ × Bool) := Finset.univ.map barTokEmb
abbrev ownToks : Finset (GSem nD τ sig × ℕ × Bool) := Finset.univ.map ownTokEmb

theorem toks_disjoint : Disjoint barToks ownToks := by
  rw [Finset.disjoint_left]
  intro g h₁ h₂
  obtain ⟨c, -, rfl⟩ := Finset.mem_map.mp h₁
  obtain ⟨x, -, h⟩ := Finset.mem_map.mp h₂
  exact bar_ne_cell _ _ _ _ (congrArg Prod.fst h).symm

/-- Every duty's token, handed to the device that pays it. -/
theorem toks_dealt : bigSep (barToks ∪ ownToks) (fun x => (dutyTok ER x.1 x.2.1 x.2.2 : sProp 𝕄)) ⊢ bigSep Finset.univ fun c : Dev nD => rights (F := F) c := by
  have bars : bigSep barToks (fun x => (dutyTok ER x.1 x.2.1 x.2.2 : sProp 𝕄))
      = iprop((bigSep Finset.univ fun c : Dev nD => dutyTok ER (barCell c) 0 false) ∗ bigSep Finset.univ fun c : Dev nD => dutyTok ER (barCell c) 0 true) := by
    rw [bigSep_map, bigSep_univ_prod, ← bigSep_sep']
    refine bigSep_congr fun c _ => ?_
    rw [bigSep_univ_eq_bigSepL [false, true] (by decide) (by decide)]
    rfl
  have own : bigSep ownToks (fun x => (dutyTok ER x.1 x.2.1 x.2.2 : sProp 𝕄)) = bigSep Finset.univ fun c : Dev nD => fam fun j k => dutyTok ER (cell c j k) 0 false := by
    rw [bigSep_map, bigSep_univ_prod]
    rfl
  have both : bigSep (barToks ∪ ownToks) (fun x => (dutyTok ER x.1 x.2.1 x.2.2 : sProp 𝕄))
      = iprop(bigSep barToks (fun x => dutyTok ER x.1 x.2.1 x.2.2) ∗ bigSep ownToks fun x => dutyTok ER x.1 x.2.1 x.2.2) := bigSep_union toks_disjoint
  rw [both, bars, own]
  unfold rights
  simp only [fam_eq, bigSep_sep']
  rw [bigSep_univ_equiv nearEquiv (fun c : Dev nD => (dutyTok ER (barCell c) 0 false : sProp 𝕄)),
    bigSep_univ_equiv acrossEquiv (fun c : Dev nD => (dutyTok ER (barCell c) 0 true : sProp 𝕄)),
    bigSep_univ_equiv nearEquiv (fun c : Dev nD => (bigSep Finset.univ fun k => dutyTok ER (cell c 1 k) 0 false : sProp 𝕄)),
    bigSep_univ_equiv acrossEquiv (fun c : Dev nD => (bigSep Finset.univ fun k => dutyTok ER (cell c 3 k) 0 false : sProp 𝕄)),
    bigSep_univ_equiv nearEquiv (fun c : Dev nD => (bigSep Finset.univ fun k => dutyTok ER (cell c 5 k) 0 false : sProp 𝕄))]
  iintro ⟨⟨Hf, Ht⟩, H0, H1, H2, H3, H4, H5⟩
  isplitl [Hf]; · iexact Hf
  isplitl [Ht]; · iexact Ht
  isplitl [H0]; · iexact H0
  isplitl [H1]; · iexact H1
  isplitl [H2]; · iexact H2
  isplitl [H3]; · iexact H3
  isplitl [H4]; · iexact H4
  iexact H5

/-- What stays with device `c` of the ghost state. -/
def keeps (c : Dev nD) : sProp 𝕄 :=
  iprop(atPos ER (barCell c) 0 ∅ 0 ∗ fam (fun j k => openTok ER (cell c j k)) ∗ rights (F := F) c)

/-! ## The first state -/

/-- The launch element: the staging buffers' counters', and the protocol's. -/
def u₀ : UU :=
  (initOf (Pipeline.cells (Pipeline.pin (pcfgs (F := F)) adm) cellOf_inj) (Pipeline.launchToks (Pipeline.pin (pcfgs (F := F)) adm) cellOf_inj),
    launchOf barCells ownCells (barToks ∪ ownToks))

/-- A resource left with the first device until all devices are dealt to at once. -/
def onFirst (X : sProp 𝕄) (c : Dev nD) : sProp 𝕄 := if c = 0 then X else iprop(emp)
theorem onFirst_all (X : sProp 𝕄) : bigSep Finset.univ (onFirst X) = X := by
  have others : bigSep (Finset.univ.erase (0 : Dev nD)) (onFirst X) = (BI.emp : sProp 𝕄) := by
    exact (bigSep_congr (Ψ := fun _ => (BI.emp : sProp 𝕄)) fun c hc => if_neg (Finset.ne_of_mem_erase hc)).trans (BI.bigSep_emp_const _)
  rw [bigSep_univ_at _ (0 : Dev nD), others, show onFirst X 0 = X from if_pos rfl]
  exact BI.equiv_iff.mp sep_emp

def seed : Dev nD → sProp 𝕄 := onFirst (BI.own (ER (launchOf barCells ownCells (barToks ∪ ownToks))))

variable (P : Dev nD → Vec F S512x512 .f32)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What each device's body relies on, from the invariants over both sets of cells. -/
theorem ctx_make (κ : GSem nD τ sig → ℕ) :
    iprop((bigSep (barCells ∪ ownCells) fun g => cellInv ER (Rd P) (κ g) g) ∗ (bigSep barCells fun g => reached ER g 0) ∗ levAts L lv) ⊢ (ctx P κ : sProp 𝕄) := by
  have invs : (bigSep (barCells ∪ ownCells) fun g => (cellInv ER (Rd P) (κ g) g : sProp 𝕄))
      = iprop((bigSep Finset.univ fun c : Dev nD => cellInv ER (Rd P) (κ (barCell c)) (barCell c))
          ∗ bigSep Finset.univ fun x : Dev nD × Fin 6 × Fin 8 => cellInv ER (Rd P) (κ (cell x.1 x.2.1 x.2.2)) (cell x.1 x.2.1 x.2.2)) :=
    (bigSep_union cells_disjoint).trans (congrArg₂ (fun A B : sProp 𝕄 => iprop(A ∗ B)) (bigSep_map barEmb) (bigSep_map ownEmb))
  have firsts : (bigSep barCells fun g => (reached ER g 0 : sProp 𝕄)) = bigSep Finset.univ fun c : Dev nD => reached ER (barCell c) 0 := bigSep_map barEmb
  rw [invs, firsts]
  unfold ctx
  rw [bigSep_sep']
  iintro ⟨⟨HB, HO⟩, HR, HL⟩
  isplitl [HB HR]
  · isplitl [HB]; · iexact HB
    iexact HR
  isplitl [HO]; · iexact HO
  iexact HL

variable (m : (ℓ : Loc nD τ sig) → Buf (Elt F) ℓ) (ρ : Dev nD → PrngReg)

/-- What a device holds at launch, apart from the ghost state. -/
def plain (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)

abbrev first (c : Dev nD) : sProp 𝕄 := iprop(StableHlo.held (c : Thread nD τ) (Pipeline.ucRefs τ sig) (V0 m c) ∗ riding P c)

theorem first_make (κ : GSem nD τ sig → ℕ) (c : Dev nD) : iprop(ctx P κ ∗ (keeps (F := F) c ∗ plain m c)) ⊢ (first P m c : sProp 𝕄) := by
  unfold keeps plain first riding dealt
  iintro ⟨#Hctx, ⟨Ha, Ho, Hr⟩, Hh, Hc, HO, Hp⟩
  isplitl [Hh]; · iexact Hh
  isplitl [Ha Ho Hr Hc]
  · iexists κ
    isplitr; · iexact Hctx
    isplitl [Ha]; · iexact Ha
    isplitl [Ho]; · iexact Ho
    isplitl [Hr]; · iexact Hr
    iexact Hc
  isplitl [Hp]; · iexact Hp
  iexists ∅; iexact HO

/-- All devices dealt to at once. -/
theorem deal : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ seed (F := F) c)) ∗ levAts L lv)
    ⊢ (|={Set.univ}=> bigSep Finset.univ (first P m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ seed (F := F) c)
      ⊢ (iprop(plain m c ∗ (semVal (barCell c) 0 ∗ seed (F := F) c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems_eq]
    unfold plain
    iintro ⟨Hh, Hv, HO, Hcr, Hp, Hs⟩
    ihave Hc := (launch_credits (F := F) c) $$ Hcr
    isplitl [Hh Hc HO Hp]
    · isplitl [Hh]; · iexact Hh
      isplitl [Hc]; · iexact Hc
      isplitl [HO]; · iexact HO
      iexists (ρ c); iexact Hp
    isplitl [Hv]; · iexact Hv
    iexact Hs
  have parts : (bigSep Finset.univ fun c : Dev nD => (iprop(plain m c ∗ (semVal (barCell c) 0 ∗ seed (F := F) c)) : sProp 𝕄))
      = iprop(bigSep Finset.univ (plain m) ∗ (bigSep Finset.univ fun c : Dev nD => semVal (barCell c) 0)
          ∗ BI.own (ER (launchOf barCells ownCells (barToks ∪ ownToks)))) := by
    rw [bigSep_sep', bigSep_sep', show bigSep Finset.univ (seed (F := F)) = _ from onFirst_all _]
  have all : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ seed (F := F) c))
      ⊢ (iprop(bigSep Finset.univ (plain m) ∗ (bigSep Finset.univ fun c : Dev nD => semVal (barCell c) 0)
          ∗ BI.own (ER (launchOf barCells ownCells (barToks ∪ ownToks)))) : sProp 𝕄) :=
    (bigSep_mono (s := Finset.univ) fun (c : Dev nD) _ => each c).trans (Entails.of_eq parts)
  have vals : (bigSep Finset.univ fun c : Dev nD => (semVal (barCell c) 0 : sProp 𝕄)) ⊢ bigSep barCells fun g => semVal g 0 :=
    Entails.of_eq (bigSep_map barEmb (Φ := fun g : GSem nD τ sig => (semVal g 0 : sProp 𝕄))).symm
  have poss : (bigSep barCells fun g => (atPos ER g 0 ∅ 0 : sProp 𝕄)) ⊢ bigSep Finset.univ fun c : Dev nD => atPos ER (barCell c) 0 ∅ 0 :=
    Entails.of_eq (bigSep_map barEmb)
  have opens : (bigSep ownCells fun g => (openTok ER g : sProp 𝕄)) ⊢ bigSep Finset.univ fun c : Dev nD => fam fun j k => openTok ER (cell c j k) :=
    Entails.of_eq ((bigSep_map ownEmb).trans (bigSep_univ_prod _))
  iintro ⟨H, HL⟩
  ihave H := all $$ H
  icases H with ⟨Hplain, Hv, Hu⟩
  imod (Rounds.fund_launch ER (Rd P) cells_disjoint (fun g _ h => h) (barToks ∪ ownToks)) $$ [Hv Hu] with ⟨%κ, -, Hinv, Hr, Hat, Hopen, Htok⟩
  · isplitl [Hv]
    · iapply vals; iexact Hv
    · iexact Hu
  ihave #Hctx := (ctx_make P κ) $$ [Hinv Hr HL]
  · isplitl [Hinv]; · iexact Hinv
    isplitl [Hr]; · iexact Hr
    iexact HL
  imodintro
  iapply (bigSep_with_persistent (R := ctx P κ) (Φ := fun c => iprop(keeps (F := F) c ∗ plain m c)) fun c _ => first_make P m κ c)
  isplitr; · iexact Hctx
  unfold keeps
  simp only [bigSep_sep']
  isplitr [Hplain]
  · isplitl [Hat]; · iapply poss; iexact Hat
    isplitl [Hopen]; · iapply opens; iexact Hopen
    iapply (toks_dealt (F := F)); iexact Htok
  iexact Hplain

end Cert.KernelIdeal.Line

end
-- ==== Proof.Run.lean ====
/-
  The whole run: from any memory with every counter at zero, every device ends with its arguments as they were, the
  two halves of the sum in its result, and every counter at zero again.
-/
module

public import proofs.«01_k».proof.Proof.Launch

@[expose] public section

noncomputable section

namespace Cert.KernelIdeal.Line

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-- Each device's partial sum: what its own operations leave for the kernel. -/
abbrev part (c : Dev nD) : Vec F S512x512 .f32 := partOf (V6 m) c

/-- What rides beside the buffers, before the region and after. -/
def ride (i : Fin 2) (c : Dev nD) : sProp 𝕄 := if i = 0 then riding (part m) c else ridden (F := F) c

theorem ride_first (c : Dev nD) : ride m 0 c = riding (part m) c := if_pos rfl

theorem ride_enter (c : Dev nD) : (first (part m) m c : sProp 𝕄) ⊢ iprop(StableHlo.held (c : Thread nD τ) (Pipeline.ucRefs τ sig) (V0 m c) ∗ ride m 0 c) := by
  rw [ride_first]
theorem ride_leave (c : Dev nD) : iprop(StableHlo.held (c : Thread nD τ) (Pipeline.ucRefs τ sig) (V6 m c) ∗ ride m 0 c)
    ⊢ (iprop(StableHlo.held (c : Thread nD τ) (Pipeline.ucRefs τ sig) (V6 m c) ∗ riding (part m) c) : sProp 𝕄) := by
  rw [ride_first]

/-- A device at the end. -/
abbrev last (c : Dev nD) : sProp 𝕄 :=
  iprop(StableHlo.held (c : Thread nD τ) (Pipeline.ucRefs τ sig) (leftBy (V6 m) c) ∗ semVal (barCell c) 0)

theorem left_arg0 (c : Dev nD) : leftBy (V6 m) c main_arg0 = m ((c : Thread nD τ).loc main_arg0) :=
  (Function.update_of_ne (StableHlo.devRef_ne_of_ne (by decide)) _ _).trans
    ((V7_of m (fun _ r c => V6 m c r) c main_arg0 (by decide)).symm.trans (V7_main_arg0 m _ c))
theorem left_arg1 (c : Dev nD) : leftBy (V6 m) c main_arg1 = m ((c : Thread nD τ).loc main_arg1) :=
  (Function.update_of_ne (StableHlo.devRef_ne_of_ne (by decide)) _ _).trans
    ((V7_of m (fun _ r c => V6 m c r) c main_arg1 (by decide)).symm.trans (V7_main_arg1 m _ c))
theorem left_out (c : Dev nD) : leftBy (V6 m) c main_v17 = outP (part m) c := Function.update_self _ _ _

theorem bar_only : ∀ sm : SemLoc sig, sm.isScoped .tc = false → sm = .reg barS := by decide

theorem in_hbm (r : Ref sig .tc) (h : ¬ r.isScoped = true) : (Proc.devRef .tc r : DevRef τ sig) ∈ Pipeline.ucRefs τ sig :=
  Finset.mem_filter.mpr ⟨StableHlo.devRef_mem_tcRefs r, h⟩

/-- What a final memory holds on a device. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v17) = outP (part m) c)
  ∧ s.sem (barCell c) = 0

theorem read_off (c : Dev nD) (s' : Phys nD τ sig (Elt F)) : iprop(last m c ∗ SI s') ⊢ (|={Set.univ}=> iprop(⌜Ends m c s'.mem⌝ ∗ SI s') : sProp 𝕄) := by
  unfold last StableHlo.held
  iintro ⟨⟨Hh, Hb⟩, HSI⟩
  icombine HSI Hb gives %hb
  ihave Hr := (pointsTo_read_all (Pipeline.ucRefs τ sig) (fun b => ((c : Thread nD τ).1, b)) (leftBy (V6 m) c) s') $$ [Hh HSI]
  · isplitl [Hh] <;> iassumption
  icases Hr with ⟨%h, HSI⟩
  imodintro
  isplitr
  · ipureintro
    exact ⟨⟨(h (Proc.devRef .tc main_arg0) (in_hbm main_arg0 (by decide))).trans (left_arg0 m c),
      (h (Proc.devRef .tc main_arg1) (in_hbm main_arg1 (by decide))).trans (left_arg1 m c),
      (h (Proc.devRef .tc main_v17) (in_hbm main_v17 (by decide))).trans (left_out m c)⟩, by simpa using hb⟩
  · iexact HSI

set_option backward.isDefEq.respectTransparency.types false in
/-- The run of the program. -/
theorem run_main : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v17) = outP (part m) c) ∧ r.2.sem = fun _ => 0) :=
  Pipeline.θ_run_regions_kit_dev_sems (pcfgs (F := F)) adm (pdats (V6 m)) () cellOf_inj EP defs₀ 𝒱₀ L lv m ρ main
    (segs m 𝒱₀ L lv (ride m) () (pdats (V6 m)) (region (V6 m)))
    (fun c Q => by
      rewrite [main_chain c, Seg.run_eq_chain,
        show (segs m 𝒱₀ L lv (ride m) () (pdats (V6 m)) (region (V6 m)) c).map Seg.prog = [
          StableHlo.seq (hostOps0 c),
          StableHlo.seq hostOps0_1,
          StableHlo.seq hostOps0_2,
          StableHlo.seq hostOps0_3,
          StableHlo.seq hostOps0_4,
          StableHlo.seq hostOps0_5,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := seed (F := F)) (u₀ := u₀ (F := F))
    (hu₀ := by
      unfold u₀ seed
      iintro Hu
      ihave H := (ownU_pair _ _) $$ Hu
      icases H with ⟨HP, HX⟩
      imodintro
      isplitl [HP]; · iexact HP
      rw [onFirst_all]; iexact HX)
    (T₀ := first (part m) m) (Tₙ := last m)
    (hch := fun c => ⟨ride_enter m c, .rfl, .rfl, .rfl, .rfl, .rfl,
      (ride_leave m c).trans (region_pre (V6 m) c), (region_post (V6 m) c).trans (by
        unfold ridden last
        iintro ⟨Hh, Hb, HO⟩
        isplitr [HO]
        · isplitl [Hh]; · iexact Hh
          iexact Hb
        iexact HO)⟩)
    (hinit := deal (part m) m ρ)
    (QY := Ends m) (hfin := read_off m)
    (hQ := fun s h hs => ⟨fun c => (h c).1, sem_eq_zero hs fun c sm hsm => by
      obtain rfl := bar_only sm hsm
      exact (h c).2⟩)

end Cert.KernelIdeal.Line

end
-- ==== Proof.HostValue.lean ====
/-
  What each device hands to the kernel: the rows of the table it holds itself, and zero for every row it does not.
-/
module

public import proofs.«01_k».proof.Proof.Run
public import Idealize.ShloMosaic.Lib.StableHlo.Run

@[expose] public section

noncomputable section

namespace Cert.KernelIdeal.Line

open Idealize.ShloMosaic Idealize.ShloMosaic.TcCoe
open Idealize.SL Idealize.SL.Sem Idealize.ShloMosaic.StableHlo
open Cert.KernelIdeal Cert.KernelIdeal.Gen

variable {F : FTy → Type} [FloatOps F]

/-- One number for each of the 512 rows asked for. -/
abbrev splat (w : BitVec 32) : IVec S512 32 := broadcastInDim S512 ![] bcast_S_S512 (constantI S_ 32 w)

/-- The first row of the table that device `c` holds. -/
def first_row (c : Dev nD) : IVec S_ 32 :=
  muli (id (Host.remui (Host.divui (constantI S_ 32 (Dev.word c)) (constantI S_ 32 1#32)) (constantI S_ 32 4#32))) (constantI S_ 32 4096#32)

/-- The rows asked for, counted from the first row of device `c`. -/
def from_first (c : Dev nD) (ids : IVec S512 32) : IVec S512 32 :=
  subi ids (broadcastInDim S512 ![] bcast_S_S512 (first_row c))

/-- Which of them lie among the 4096 rows held. -/
def held_here (l : IVec S512 32) : IVec S512 1 := andi (cmpi .sge l (splat 0#32)) (cmpi .slt l (splat 4096#32))

/-- Those rows, and row 0 in place of every other. -/
def row_or_zero (l : IVec S512 32) (b : IVec S512 1) : IVec S512 32 := select b l (broadcastInDim S512 ![] bcast_S_S512 (id (constantI S_ 32 0#32)))

/-- A row counted from the end when it is negative, as a column. -/
def wrapped (p : IVec S512 32) : IVec S512x1 32 :=
  broadcastInDim S512x1 ![0] bcast_S512_S512x1_0 (select (cmpi .slt p (splat 0#32)) (addi p (splat 4096#32)) p)

/-- Whether a row lies in the table held. -/
def in_block (w : IVec S512x1 32) : IVec S512x1 1 :=
  andi (cmpi .sge w (broadcastInDim S512x1 ![] bcast_S_S512x1 (constantI S_ 32 0#32)))
    (cmpi .sle w (broadcastInDim S512x1 ![0, 1] bcast_S1x1_S512x1_0_1 (broadcastInDim S1x1 ![1] bcast_S1_S1x1_1 (constantI S1 32 4095#32))))

/-- The rows read out of the table held, a filler where a row lies outside it. -/
def rows_read (E : FVec F S4096x512 .f32) (w : IVec S512x1 32) : FVec F S512x512 .f32 :=
  select (broadcastInDim S512x512 ![0] bcast_S512_S512x512_0 (Host.reduce IntOp.andi (in_block w) (constantI S_ 1 1#1) reducesTo_S512x1_S512_d1 h_S_))
    (Host.gather gather_S4096x512_S512x1_S512x512_1_0_n_n_0_1_1512 E w)
    (broadcastInDim S512x512 ![] bcast_S_S512x512 (constant S_ .f32 0x7FC00000#32))

/-- Those rows, and zero for every row this device does not hold. -/
def rows_or_zero (b : IVec S512x1 1) (R : FVec F S512x512 .f32) : FVec F S512x512 .f32 :=
  select (broadcastInDim S512x512 ![0, 1] bcast_S512x1_S512x512_0_1 b) R (broadcastInDim S512x512 ![] bcast_S_S512x512 (id (constant S_ .f32 0x00000000#32)))

/-! ## Read off the operations, one stretch at a time -/

section Stretches
variable (V : Valuation τ sig (Elt F))

theorem read_from_first (c : Dev nD) : StableHlo.after (hostOps0 c) V main_v7 = from_first c (V main_arg0) := by
  after_results <;> rfl
theorem read_held (c : Dev nD) : StableHlo.after (hostOps0 c) V main_v12 = held_here (from_first c (V main_arg0)) := by
  after_results <;> rfl
theorem read_zero (c : Dev nD) : StableHlo.after (hostOps0 c) V main_c_4 = constantI S_ 32 0#32 := by
  after_results <;> rfl
theorem read_row (h : V main_c_4 = constantI S_ 32 0#32) : StableHlo.after hostOps0_1 V main_v13 = row_or_zero (V main_v7) (V main_v12) := by
  unfold row_or_zero
  rw [← h]
  after_results <;> rfl
theorem read_column : StableHlo.after hostOps0_2 V main_v14 = broadcastInDim S512x1 ![0] bcast_S512_S512x1_0 (V main_v12) := by
  after_results <;> rfl
theorem read_rows : StableHlo.after hostOps0_3 V main_v15 = rows_read (V main_arg1) (wrapped (V main_v13)) := by
  after_results <;> rfl
theorem read_cst : StableHlo.after hostOps0_4 V main_cst = constant S_ .f32 0x00000000#32 := by
  after_results <;> rfl
theorem read_part (h : V main_cst = constant S_ .f32 0x00000000#32) : StableHlo.after hostOps0_5 V main_v16 = rows_or_zero (V main_v14) (V main_v15) := by
  unfold rows_or_zero
  rw [← h]
  after_results <;> rfl

end Stretches

variable (m : (ℓ : Loc nD τ sig) → Buf (Elt F) ℓ)

/-- A device's part, from its two arguments. -/
def part_of (c : Dev nD) (ids : IVec S512 32) (E : FVec F S4096x512 .f32) : FVec F S512x512 .f32 :=
  rows_or_zero (broadcastInDim S512x1 ![0] bcast_S512_S512x1_0 (held_here (from_first c ids)))
    (rows_read E (wrapped (row_or_zero (from_first c ids) (held_here (from_first c ids)))))

theorem part_eq (c : Dev nD) :
    part m c = part_of c (m ((c.tc : Thread nD τ).loc main_arg0)) (m ((c.tc : Thread nD τ).loc main_arg1)) := by
  have h7 : V1 m c main_v7 = from_first c (V0 m c main_arg0) := read_from_first (V0 m c) c
  have h12 : V1 m c main_v12 = held_here (from_first c (V0 m c main_arg0)) := read_held (V0 m c) c
  have h13 : V2 m c main_v13 = row_or_zero (V1 m c main_v7) (V1 m c main_v12) := read_row (V1 m c) (read_zero (V0 m c) c)
  have h14 : V3 m c main_v14 = broadcastInDim S512x1 ![0] bcast_S512_S512x1_0 (V2 m c main_v12) := read_column (V2 m c)
  have h15 : V4 m c main_v15 = rows_read (V3 m c main_arg1) (wrapped (V3 m c main_v13)) := read_rows (V3 m c)
  have h16 : V6 m c main_v16 = rows_or_zero (V5 m c main_v14) (V5 m c main_v15) := read_part (V5 m c) (read_cst (V4 m c))
  show V6 m c main_v16 = _
  rw [h16, V5_of m c main_v14 (by decide), V4_of m c main_v14 (by decide), h14, V2_of m c main_v12 (by decide), h12,
    V5_of m c main_v15 (by decide), h15, V3_of m c main_arg1 (by decide), V2_of m c main_arg1 (by decide), V1_of m c main_arg1 (by decide),
    V3_of m c main_v13 (by decide), h13, h7, h12]
  rfl

end Cert.KernelIdeal.Line

end
-- ==== Proof.Entry.lean ====
/-
  One entry of what a device hands to the kernel. The table has 16384 rows, 4096 to each place along the third axis of
  the mesh: row `k` is held where `c % 4 = k / 4096`, as row `k % 4096` of what is held there.
-/
module

public import proofs.«01_k».proof.Proof.HostValue
public import Idealize.ShloMosaic.Lib.Routing.Ops
public import Idealize.ShloMosaic.Lib.ReduceAll
public import Idealize.ShloMosaic.Lib.Affine
public import Idealize.ShloMosaic.PureOps.Ideal

@[expose] public section

noncomputable section

namespace Cert.KernelIdeal.Line

open Idealize.ShloMosaic Idealize.ShloMosaic.TcCoe
open Idealize.SL Idealize.SL.Sem
open Idealize.ShloMosaic.ValueIdx
open Cert.KernelIdeal Cert.KernelIdeal.Gen

variable {F : FTy → Type} [FloatOps F]

/-- A column made of a list has the list's entry in each row. -/
theorem column_apply {α : Type} (v : S512.Idx → α) (r : Fin 512) (z : Fin 1) :
    broadcastInDim S512x1 ![0] bcast_S512_S512x1_0 v (ix2 r z) = v (ix1 r) := by
  simp only [broadcastInDim]
  congr 1
  funext a
  obtain rfl : a = 0 := Subsingleton.elim _ _
  rfl

/-- A rectangle made of a column has the column's entry all along each row. -/
theorem across_apply {α : Type} (v : S512x1.Idx → α) (r y : Fin 512) :
    broadcastInDim S512x512 ![0, 1] bcast_S512x1_S512x512_0_1 v (ix2 r y) = v (ix2 r (0 : Fin 1)) := by
  simp only [broadcastInDim]
  congr 1
  funext a
  match a with
  | ⟨0, _⟩ => rfl
  | ⟨1, _⟩ => rfl

/-- So has one made of a list. -/
theorem spread_apply {α : Type} (v : S512.Idx → α) (r y : Fin 512) :
    broadcastInDim S512x512 ![0] bcast_S512_S512x512_0 v (ix2 r y) = v (ix1 r) := by
  simp only [broadcastInDim]
  congr 1
  funext a
  obtain rfl : a = 0 := Subsingleton.elim _ _
  rfl

/-- The first row held, as a number. -/
theorem first_row_apply (c : Dev nD) (j : S_.Idx) : first_row c j = BitVec.ofNat 32 (4096 * (c.val % 4)) := by
  show IntOp.muli (IntOp.remui .host (IntOp.divui .host (Dev.word c) 1#32) 4#32) 4096#32 = _
  revert c
  decide

variable (c : Dev nD) (ids : IVec S512 32) (r : Fin 512)

/-- A row number counted from the first row held, with its sign. -/
theorem from_first_toInt (k : ℕ) (hk : k < 16384) (hr : ids (ix1 r) = BitVec.ofNat 32 k) :
    (from_first c ids (ix1 r)).toInt = (k : ℤ) - 4096 * (c.val % 4 : ℕ) := by
  have e : from_first c ids (ix1 r) = BitVec.ofNat 32 k - BitVec.ofNat 32 (4096 * (c.val % 4)) := by
    show IntOp.subi (ids (ix1 r)) (first_row c _) = _
    rw [first_row_apply, hr]
    rfl
  have hz : c.val % 4 < 4 := Nat.mod_lt _ (by decide)
  generalize c.val % 4 = z at e hz ⊢
  rw [e, BitVec.toInt_sub, StableHlo.Predicate.toInt_ofNat_small k (by omega), StableHlo.Predicate.toInt_ofNat_small (4096 * z) (by omega)]
  have h1 : ((4096 * z : ℕ) : ℤ) = 4096 * (z : ℤ) := by push_cast; rfl
  rw [h1]
  exact Int.bmod_eq_of_le (by omega) (by omega)

theorem held_iff (l : IVec S512 32) : held_here l (ix1 r) = 1#1 ↔ 0 ≤ (l (ix1 r)).toInt ∧ (l (ix1 r)).toInt < 4096 := by
  show IntOp.andi (IntOp.cmpi .sge (l (ix1 r)) 0#32) (IntOp.cmpi .slt (l (ix1 r)) 4096#32) = 1#1 ↔ _
  rw [IntOp.andi_eq_one, IntOp.cmpi_sge, IntOp.cmpi_slt]
  rfl

/-- The row read is always one of the 4096. -/
theorem row_bounds (l : IVec S512 32) :
    0 ≤ (row_or_zero l (held_here l) (ix1 r)).toInt ∧ (row_or_zero l (held_here l) (ix1 r)).toInt < 4096 := by
  show 0 ≤ (if held_here l (ix1 r) = 1#1 then l (ix1 r) else 0#32).toInt ∧ (if held_here l (ix1 r) = 1#1 then l (ix1 r) else 0#32).toInt < 4096
  by_cases h : held_here l (ix1 r) = 1#1
  · rw [if_pos h]; exact (held_iff r l).1 h
  · rw [if_neg h]; decide

/-- A row that is not negative is not counted from the end. -/
theorem wrapped_apply (p : IVec S512 32) (z : Fin 1) (h : 0 ≤ (p (ix1 r)).toInt) : wrapped p (ix2 r z) = p (ix1 r) := by
  unfold wrapped
  rw [column_apply]
  show (if IntOp.cmpi .slt (p (ix1 r)) 0#32 = 1#1 then _ else p (ix1 r)) = _
  rw [if_neg]
  rw [IntOp.cmpi_slt]
  exact not_lt.2 h

theorem in_block_apply (w : IVec S512x1 32) (i : S512x1.Idx) (h : 0 ≤ (w i).toInt ∧ (w i).toInt < 4096) : in_block w i = 1#1 := by
  show IntOp.andi (IntOp.cmpi .sge (w i) 0#32) (IntOp.cmpi .sle (w i) 4095#32) = 1#1
  rw [IntOp.andi_eq_one, IntOp.cmpi_sge, IntOp.cmpi_sle]
  exact ⟨h.1, Int.le_of_lt_add_one h.2⟩

/-- When every row lies in the table held, a row read is that row of the table. -/
theorem rows_read_apply (E : FVec F S4096x512 .f32) (w : IVec S512x1 32) (hw : ∀ i, 0 ≤ (w i).toInt ∧ (w i).toInt < 4096) (y : Fin 512)
    (b : Fin 4096) (hb : w (ix2 r (0 : Fin 1)) = BitVec.ofNat 32 b.val) : rows_read E w (ix2 r y) = E (ix2 b y) := by
  show (if broadcastInDim S512x512 ![0] bcast_S512_S512x512_0 (Host.reduce IntOp.andi (in_block w) (constantI S_ 1 1#1) reducesTo_S512x1_S512_d1 h_S_) (ix2 r y) = 1#1
    then Host.gather _ E w (ix2 r y) else _) = _
  rw [spread_apply, if_pos (Host.reduce_andi_one _ _ _ _ _ rfl fun i => in_block_apply w i (hw i))]
  exact Routing.gather_row _ rfl rfl rfl rfl rfl E w r y b hb (by decide)

/-- The word of a number read signed. -/
theorem eq_ofNat_of_toInt (x : BitVec 32) (n : ℕ) (hn : n < 4096) (h : x.toInt = n) : x = BitVec.ofNat 32 n :=
  BitVec.eq_of_toInt_eq (h.trans (StableHlo.Predicate.toInt_ofNat_small n (by omega)).symm)

/-- One entry of a device's part: the table's entry where the device holds the row, zero where it does not. -/
theorem part_of_apply (E : FVec F S4096x512 .f32) (y : Fin 512) (k : ℕ) (hk : k < 16384) (hr : ids (ix1 r) = BitVec.ofNat 32 k) :
    part_of c ids E (ix2 r y) = if c.val % 4 = k / 4096 then E (ix2 ⟨k % 4096, Nat.mod_lt _ (by decide)⟩ y) else FloatOps.ofBits .f32 0x00000000#32 := by
  have hl := from_first_toInt c ids r k hk hr
  have hall : ∀ i, 0 ≤ (wrapped (row_or_zero (from_first c ids) (held_here (from_first c ids))) i).toInt
      ∧ (wrapped (row_or_zero (from_first c ids) (held_here (from_first c ids))) i).toInt < 4096 := fun i => by
    obtain ⟨a, z, rfl⟩ : ∃ (a : Fin 512) (z : Fin 1), i = ix2 a z := ⟨i 0, i 1, eq_ix2 i⟩
    rw [wrapped_apply _ _ _ (row_bounds _ _).1]
    exact row_bounds _ _
  show (if broadcastInDim S512x512 ![0, 1] bcast_S512x1_S512x512_0_1 (broadcastInDim S512x1 ![0] bcast_S512_S512x1_0 (held_here (from_first c ids))) (ix2 r y) = 1#1
    then rows_read E _ (ix2 r y) else FloatOps.ofBits .f32 0x00000000#32) = _
  rw [across_apply, column_apply]
  by_cases h : c.val % 4 = k / 4096
  · have hm : held_here (from_first c ids) (ix1 r) = 1#1 := (held_iff r _).2 (by rw [hl]; omega)
    rw [if_pos hm, if_pos h]
    refine rows_read_apply r E _ hall y ⟨k % 4096, Nat.mod_lt _ (by decide)⟩ ?_
    rw [wrapped_apply _ _ _ (row_bounds _ _).1]
    show (if held_here (from_first c ids) (ix1 r) = 1#1 then from_first c ids (ix1 r) else _) = _
    rw [if_pos hm]
    exact eq_ofNat_of_toInt _ (k % 4096) (Nat.mod_lt _ (by decide)) (by rw [hl]; omega)
  · have hm : ¬held_here (from_first c ids) (ix1 r) = 1#1 := fun hh => by
      have := (held_iff r _).1 hh
      rw [hl] at this
      omega
    rw [if_neg hm, if_neg h]

end Cert.KernelIdeal.Line

end
-- ==== Proof.Equal.lean ====
/-
  The four parts along a line add up to the rows of the whole table: each row is held at exactly one place of the line,
  and the other three parts are zero there.
-/
module

public import proofs.«01_k».proof.Proof.Entry
public import proofs.«01_k».proof.Proof.Gen.ReferenceIdeal.Run
public import proofs.«01_k».proof.Pre_ids_in_table_KernelIdeal
public import Idealize.ShloMosaic.Lib.Layout

@[expose] public section

noncomputable section

namespace Cert.KernelIdeal.Line

open Idealize.ShloMosaic Idealize.ShloMosaic.TcCoe
open Idealize.SL Idealize.SL.Sem
open Idealize.ShloMosaic.ValueIdx
open Cert.KernelIdeal Cert.KernelIdeal.Gen

/-! ## The sum along a line -/

/-- At one entry, the four parts of which three are zero and the one at place `q` is `e` add up to `e` on every device. -/
theorem outP_entry (P : Dev nD → Vec Ideal S512x512 .f32) (i : S512x512.Idx) (q : ℕ) (hq : q < 4) (e : Ideal .f32)
    (hP : ∀ d : Dev nD, P d i = if d.val % 4 = q then e else (0 : EReal)) (c : Dev nD) : outP P c i = e := by
  have sums : ∀ d : Dev nD, sumP P d i = (if d.val % 4 / 2 = q / 2 then e else (0 : EReal)) := fun d => by
    show (P d i : EReal) + (P (near d) i : EReal) = _
    rw [hP, hP]
    have hn : (near d).val % 4 = if d.val % 2 = 0 then d.val % 4 + 1 else d.val % 4 - 1 := by
      show (if d.val % 2 = 0 then d.val + 1 else d.val - 1) % 4 = _
      split <;> omega
    by_cases h : d.val % 4 / 2 = q / 2
    · by_cases hd : d.val % 4 = q
      · rw [if_pos h, if_pos hd, if_neg (by rw [hn]; split <;> omega)]; exact add_zero _
      · rw [if_pos h, if_neg hd, if_pos (by rw [hn]; split <;> omega)]; exact zero_add _
    · rw [if_neg h, if_neg (by omega), if_neg (by rw [hn]; split <;> omega)]; exact add_zero _
  have mids : ∀ d : Dev nD, midOut P d i = e := fun d => by
    show (sumP P d i : EReal) + (sumP P (across d) i : EReal) = _
    rw [sums, sums]
    have ha : (across d).val % 4 = 3 - d.val % 4 := by
      show (d.val + 3 - 2 * (d.val % 4)) % 4 = _
      omega
    by_cases h : d.val % 4 / 2 = q / 2
    · rw [if_pos h, if_neg (by rw [ha]; omega)]; exact add_zero _
    · rw [if_neg h, if_pos (by rw [ha]; omega)]; exact zero_add _
  unfold outP
  split
  · exact mids c
  · exact mids (near c)

/-! ## The rows asked for -/

/-- A number known to lie in the table, as a natural number. -/
theorem row_of_word (x : BitVec 32) (h0 : 0 ≤ x.toInt) (h1 : x.toInt < 16384) : ∃ k : ℕ, k < 16384 ∧ x = BitVec.ofNat 32 k :=
  ⟨x.toInt.toNat, by omega, BitVec.eq_of_toInt_eq (by rw [StableHlo.Predicate.toInt_ofNat_small _ (by omega)]; omega)⟩

/-- What the precondition says: every row asked for lies in the table. -/
theorem rows_in_table [Cert.Pre_ids_in_table_KernelIdeal.Facts] (ids : IVec S512 32) (E : FVec Ideal S4096x512 .f32)
    (h : Cert.Pre_ids_in_table_KernelIdeal.fn (F := Ideal) ids E = fun _ => 1#1) (r : Fin 512) :
    ∃ k : ℕ, k < 16384 ∧ ids (ix1 r) = BitVec.ofNat 32 k := by
  have e : IntOp.andi (IntOp.cmpi .sge (ids (ix1 r)) 0#32) (IntOp.cmpi .slt (ids (ix1 r)) 16384#32) = 1#1 := congrFun h (ix1 r)
  rw [IntOp.andi_eq_one, IntOp.cmpi_sge, IntOp.cmpi_slt] at e
  exact row_of_word _ e.1 e.2

/-! ## The table in four blocks -/

/-- The block of the table that device `d` holds. -/
abbrev block_of (E : (⟨2, ![16384, 512]⟩ : Shape).Idx → Ideal .f32) (d : Dev nD) : (⟨2, ![4096, 512]⟩ : Shape).Idx → Ideal .f32 :=
  Layout.blockN ⟨2, ![4096, 512]⟩ ⟨2, ![16384, 512]⟩ (Layout.meshBlock [2, 4, 4] ![[2], []] d) E

/-- Row `k` of the table is row `k % 4096` of the block held at place `k / 4096`. -/
theorem block_row (E : (⟨2, ![16384, 512]⟩ : Shape).Idx → Ideal .f32) (d : Dev nD) (y : Fin 512) (k : ℕ) (hk : k < 16384)
    (h : d.val % 4 = k / 4096) :
    block_of E d (ix2 ⟨k % 4096, Nat.mod_lt _ (by decide)⟩ y) = E (ix2 ⟨k, hk⟩ y) := by
  unfold block_of
  rw [Layout.blockN_apply]
  refine congrArg E (funext fun a => Fin.ext ?_)
  match a with
  | ⟨0, _⟩ =>
    show (d.val / 1 % 4 * 1 + 0) * 4096 + k % 4096 = k
    omega
  | ⟨1, _⟩ =>
    show 0 * 512 + y.val = y.val
    omega

/-! ## The reference's entry -/

/-- What the reference leaves: the rows asked for, read out of the whole table. -/
def looked_up (ids : IVec Cert.ReferenceIdeal.S512 32) (E : FVec Ideal Cert.ReferenceIdeal.S16384x512 .f32) : FVec Ideal Cert.ReferenceIdeal.S512x512 .f32 :=
  Host.gather Cert.ReferenceIdeal.gather_S16384x512_S512x1_S512x512_1_0_n_n_0_1_1512 E
    (broadcastInDim Cert.ReferenceIdeal.S512x1 ![0] Cert.ReferenceIdeal.Gen.bcast_S512_S512x1_0
      (select (cmpi .slt ids (broadcastInDim Cert.ReferenceIdeal.S512 ![] Cert.ReferenceIdeal.Gen.bcast_S_S512 (constantI Cert.ReferenceIdeal.S_ 32 0#32)))
        (addi ids (broadcastInDim Cert.ReferenceIdeal.S512 ![] Cert.ReferenceIdeal.Gen.bcast_S_S512 (constantI Cert.ReferenceIdeal.S_ 32 16384#32))) ids))

theorem looked_up_apply (ids : IVec Cert.ReferenceIdeal.S512 32) (E : FVec Ideal Cert.ReferenceIdeal.S16384x512 .f32) (r y : Fin 512) (k : ℕ)
    (hk : k < 16384) (hr : ids (ix1 r) = BitVec.ofNat 32 k) : looked_up ids E (ix2 r y) = E (ix2 ⟨k, hk⟩ y) := by
  refine Routing.gather_row _ rfl rfl rfl rfl rfl E _ r y ⟨k, hk⟩ ?_ (by decide)
  refine (column_apply _ r 0).trans ?_
  show (if IntOp.cmpi .slt (ids (ix1 r)) 0#32 = 1#1 then _ else ids (ix1 r)) = _
  rw [if_neg, hr]
  rw [IntOp.cmpi_slt, hr, StableHlo.Predicate.toInt_ofNat_small k (by omega)]
  exact not_lt.2 (Int.natCast_nonneg k)

/-! ## The two are equal -/

/-- The zero a device puts in place of a row it does not hold is the number zero. -/
theorem zero_word : (FloatOps.ofBits .f32 0x00000000#32 : Ideal .f32) = (0 : EReal) := by
  show Ideal.ofBits .f32 0x00000000#32 = 0
  simp [Ideal.ofBits, Ideal.ieee]

theorem sum_eq_looked_up (m : (ℓ : Loc nD τ sig) → Buf (Elt Ideal) ℓ) (ids : IVec S512 32) (E : FVec Ideal Cert.ReferenceIdeal.S16384x512 .f32)
    (hids : ∀ r : Fin 512, ∃ k : ℕ, k < 16384 ∧ ids (ix1 r) = BitVec.ofNat 32 k)
    (hm : ∀ d : Dev nD, m ((d.tc : Thread nD τ).loc main_arg0) = ids
      ∧ m ((d.tc : Thread nD τ).loc main_arg1) = block_of E d)
    (c : Dev nD) : outP (part m) c = looked_up ids E := by
  funext i
  obtain ⟨r, y, rfl⟩ : ∃ r y : Fin 512, i = ix2 r y := ⟨i 0, i 1, eq_ix2 i⟩
  obtain ⟨k, hk, hr⟩ := hids r
  rw [looked_up_apply ids E r y k hk hr]
  refine outP_entry (part m) (ix2 r y) (k / 4096) (by omega) _ (fun d => ?_) c
  rw [part_eq, (hm d).1, (hm d).2, part_of_apply d ids r _ y k hk hr]
  by_cases h : d.val % 4 = k / 4096
  · rw [if_pos h, if_pos h, block_row E d y k hk h]
  · rw [if_neg h, if_neg h, zero_word]

end Cert.KernelIdeal.Line

end
-- ==== Proof.lean ====
/-
  The claims: the kernel and its idealisation run, keep their arguments and leave every counter at zero; so does the
  reference; and on ids that lie in the table the idealised kernel and the reference leave the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equal

@[expose] public section

noncomputable section

namespace Cert.Proof

open Idealize.ShloMosaic Idealize.SL.Sem

/-- The precondition spreads one number over the 512 rows asked for: read with the kernel's arguments, -/
instance facts_pre_kernel : Cert.Pre_ids_in_table_KernelIdeal.Facts := ⟨by decide⟩
/-- and with the reference's. -/
instance facts_pre_ref : Cert.Pre_ids_in_table_ReferenceIdeal.Facts := ⟨by decide⟩

/-- The kernel as printed and its idealisation have one text: their bodies agree, -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- so do the pipelines built on them, -/
theorem defs_same : Cert.Kernel.defs (F := Bits) = Cert.KernelIdeal.defs (F := Bits) :=
  congrArg (Pipeline.defs Cert.KernelIdeal.pcfgs) bodies_same

/-- and so do the steps every device takes. -/
theorem main_same : Cert.Kernel.main (F := Bits) = Cert.KernelIdeal.main (F := Bits) := rfl

/-- The idealised kernel runs, keeps its arguments and leaves every counter at zero, for any floats. -/
theorem runs {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.KernelIdeal.Line.run_main m ρ)

/-- So does the kernel as printed. -/
theorem frame_kernel : Cert.quiescent_Kernel := fun m ρ _ => by
  rw [defs_same, main_same]
  exact runs (F := Bits) m ρ

/-- The idealised kernel at the exact numbers. -/
theorem frame_ideal : Cert.quiescent_KernelIdeal := fun m ρ _ => runs (F := Ideal) m ρ

/-- The reference runs and keeps its arguments; it has no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the rows asked for, read out of the whole table. -/
theorem equal : Cert.algebraic_KernelIdeal_ReferenceIdeal_pre_ids_in_table_KernelIdeal := by
  intro m ρ m' ρ' hpre hm
  refine ⟨Cert.KernelIdeal.Line.looked_up (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.Line.run_main (F := Ideal) m ρ)
    refine Cert.KernelIdeal.Line.sum_eq_looked_up m _ _ (fun r => ?_) hm c
    have rows := Cert.KernelIdeal.Line.rows_in_table _ _ (hpre c) r
    rwa [(hm c).1] at rows
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, facts_pre_kernel, facts_pre_ref,
    frame_kernel, frame_ideal, fun m ρ _ => frame_ideal m ρ trivial, frame_ref, fun m ρ _ => frame_ref m ρ trivial, trivial, equal⟩

end Cert.Proof

end
